-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x2048 : Shape := ⟨3, ![16, 4096, 2048]⟩
abbrev S65536x2048 : Shape := ⟨2, ![65536, 2048]⟩
abbrev S256x256 : Shape := ⟨2, ![256, 256]⟩
abbrev S_ : Shape := ⟨0, ![]⟩
abbrev S65536x1024 : Shape := ⟨2, ![65536, 1024]⟩
abbrev S65536x128 : Shape := ⟨2, ![65536, 128]⟩
abbrev S256x1x256 : Shape := ⟨3, ![256, 1, 256]⟩
abbrev S256x2048 : Shape := ⟨2, ![256, 2048]⟩
abbrev S256x1024 : Shape := ⟨2, ![256, 1024]⟩
abbrev S256x128 : Shape := ⟨2, ![256, 128]⟩
abbrev S1x1x256 : Shape := ⟨3, ![1, 1, 256]⟩
abbrev S8x128 : Shape := ⟨2, ![8, 128]⟩
abbrev S16x128 : Shape := ⟨2, ![16, 128]⟩
abbrev S16x128x1 : Shape := ⟨3, ![16, 128, 1]⟩
abbrev S8x128x1 : Shape := ⟨3, ![8, 128, 1]⟩
abbrev S128 : Shape := ⟨1, ![128]⟩
abbrev S1x128 : Shape := ⟨2, ![1, 128]⟩
abbrev S1x1x128 : Shape := ⟨3, ![1, 1, 128]⟩
abbrev S64x128 : Shape := ⟨2, ![64, 128]⟩

abbrev nBuf : Space → Nat
  | .hbm => 53
  | .vmem => 9
  | .smem => 0
  | _ => 0

abbrev bufTy : (tb : Table) → Fin (tcTables nBuf tb) → BufTy
  | .hbm, ⟨0, _⟩ => ⟨S16x4096x2048, .bf16⟩
  | .hbm, ⟨1, _⟩ => ⟨S65536x2048, .bf16⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S_, .i1⟩
  | .hbm, ⟨20, _⟩ => ⟨S256x256, .i1⟩
  | .hbm, ⟨21, _⟩ => ⟨S256x256, .i1⟩
  | .hbm, ⟨22, _⟩ => ⟨S256x256, .i1⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i1⟩
  | .hbm, ⟨37, _⟩ => ⟨S256x256, .i32⟩
  | .hbm, ⟨38, _⟩ => ⟨S256x256, .i32⟩
  | .hbm, ⟨39, _⟩ => ⟨S_, .i32⟩
  | .hbm, ⟨40, _⟩ => ⟨S256x256, .i32⟩
  | .hbm, ⟨41, _⟩ => ⟨S256x256, .i1⟩
  | .hbm, ⟨42, _⟩ => ⟨S256x256, .i1⟩
  | .hbm, ⟨43, _⟩ => ⟨S_, .i32⟩
  | .hbm, ⟨44, _⟩ => ⟨S256x256, .i32⟩
  | .hbm, ⟨45, _⟩ => ⟨S256x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S256x256, .bf16⟩
  | .hbm, ⟨50, _⟩ => ⟨S65536x1024, .i8⟩
  | .hbm, ⟨51, _⟩ => ⟨S65536x128, .fp8e4m3⟩
  | .hbm, ⟨52, _⟩ => ⟨S256x1x256, .f32⟩
  | .local _ .vmem, ⟨0, _⟩ => ⟨S256x2048, .bf16⟩
  | .local _ .vmem, ⟨1, _⟩ => ⟨S256x2048, .bf16⟩
  | .local _ .vmem, ⟨2, _⟩ => ⟨S256x256, .bf16⟩
  | .local _ .vmem, ⟨3, _⟩ => ⟨S256x1024, .i8⟩
  | .local _ .vmem, ⟨4, _⟩ => ⟨S256x1024, .i8⟩
  | .local _ .vmem, ⟨5, _⟩ => ⟨S256x128, .fp8e4m3⟩
  | .local _ .vmem, ⟨6, _⟩ => ⟨S256x128, .fp8e4m3⟩
  | .local _ .vmem, ⟨7, _⟩ => ⟨S1x1x256, .f32⟩
  | .local _ .vmem, ⟨8, _⟩ => ⟨S1x1x256, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10_0 : Ref sig .tc := ⟨.hbm, 50, rfl⟩
abbrev main_v10_1 : Ref sig .tc := ⟨.hbm, 51, rfl⟩
abbrev main_v10_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x4096x2048 : Shape := ⟨3, ![16, 4096, 2048]⟩
abbrev S65536x2048 : Shape := ⟨2, ![65536, 2048]⟩
abbrev S65536x1024 : Shape := ⟨2, ![65536, 1024]⟩
abbrev S65536x128 : Shape := ⟨2, ![65536, 128]⟩
abbrev S256x1x256 : Shape := ⟨3, ![256, 1, 256]⟩
abbrev S65536x128x16 : Shape := ⟨3, ![65536, 128, 16]⟩
abbrev S65536 : Shape := ⟨1, ![65536]⟩
abbrev S65536x1 : Shape := ⟨2, ![65536, 1]⟩
abbrev S65536x128x1 : Shape := ⟨3, ![65536, 128, 1]⟩
abbrev S65536x1024x2 : Shape := ⟨3, ![65536, 1024, 2]⟩
abbrev S65536x1024x1 : Shape := ⟨3, ![65536, 1024, 1]⟩

abbrev nBuf : Space → Nat
  | .hbm => 5
  | .vmem => 4
  | .smem => 0
  | _ => 0

abbrev bufTy : (tb : Table) → Fin (tcTables nBuf tb) → BufTy
  | .hbm, ⟨0, _⟩ => ⟨S16x4096x2048, .bf16⟩
  | .hbm, ⟨1, _⟩ => ⟨S65536x2048, .bf16⟩
  | .hbm, ⟨2, _⟩ => ⟨S65536x1024, .i8⟩
  | .hbm, ⟨3, _⟩ => ⟨S65536x128, .fp8e4m3⟩
  | .hbm, ⟨4, _⟩ => ⟨S256x1x256, .f32⟩
  | .local _ .vmem, ⟨0, _⟩ => ⟨S65536x2048, .bf16⟩
  | .local _ .vmem, ⟨1, _⟩ => ⟨S65536x1024, .i8⟩
  | .local _ .vmem, ⟨2, _⟩ => ⟨S65536x128, .fp8e4m3⟩
  | .local _ .vmem, ⟨3, _⟩ => ⟨S256x1x256, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S65536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
/- The kernel's block computation, written once as plain functions of the block of `x` and the block of `w` a grid point
   stages: the block maxima and the row maximum of a group of sixteen rows by exchanges between lanes, the scales, their
   reciprocals, and the codes packed two to a byte. The printed body repeats these for each group and each tile; `Bridge.lean`
   shows that what the printed body stores is these functions. Generic in the float instance. -/
module

public import proofs.«01_k».proof.Proof.Gen.KernelIdeal.Skeleton
public import Idealize.ShloMosaic.Lib.Pipeline.Value

@[expose] public section

set_option maxRecDepth 16384

noncomputable section

namespace Cert.KernelIdeal.Body

open Cert.KernelIdeal Cert.KernelIdeal.Gen Idealize.ShloMosaic Idealize.SL.Sem

variable {F : FTy → Type} [FloatOps F]

/-! ## Lanes -/

/-- The lane number over sixteen rows. -/
def lane16 : IVec S16x128 32 := iota .tc S16x128 32 [1] iota_S16x128_d1_w32
/-- The lane number over eight rows. -/
def lane8 : IVec S8x128 32 := iota .tc S8x128 32 [1] iota_S8x128_d1_w32
/-- The row number over eight rows. -/
def sub8 : IVec S8x128 32 := iota .tc S8x128 32 [0] iota_S8x128_d0_w32

/-- A lane index over sixteen rows, a negative one counted from the end. -/
def wrap16 (j : IVec S16x128 32) : IVec S16x128 32 :=
  shapeCast S16x128 (shapeCast S16x128x1
    (select (cmpi .slt j (broadcast S16x128 0#32)) (addi j (broadcast S16x128 128#32)) j) shapeCasts_S16x128_S16x128x1)
    shapeCasts_S16x128x1_S16x128

/-- A lane index over eight rows, a negative one counted from the end. -/
def wrap8 (j : IVec S8x128 32) : IVec S8x128 32 :=
  shapeCast S8x128 (shapeCast S8x128x1
    (select (cmpi .slt j (broadcast S8x128 0#32)) (addi j (broadcast S8x128 128#32)) j) shapeCasts_S8x128_S8x128x1)
    shapeCasts_S8x128x1_S8x128

/-! ## The maxima of a group of sixteen rows -/

/-- Each lane takes the value of the lane whose number differs in the bits of `k`. -/
def xlane (k : BitVec 32) (v : FVec F S16x128 .bf16) : FVec F S16x128 .bf16 :=
  truncf .bf16 (dynamicGather 1 (extf .f32 v bitsLt_bf16_f32) (wrap16 (xori lane16 (broadcast S16x128 k)))) bitsLt_bf16_f32

/-- The lanes whose number has no bit of `k`. -/
def low (k : BitVec 32) : IVec S16x128 1 :=
  cmpi .eq (andi lane16 (broadcast S16x128 k)) (broadcast S16x128 0#32)

/-- One exchange of two tiles: a lane keeps its side's value and meets the value the partner lane sends. -/
def fly (k : BitVec 32) (a b : FVec F S16x128 .bf16) : FVec F S16x128 .bf16 :=
  maximumf (select (low k) a b) (xlane k (select (low k) b a))

/-- One stage of exchanges: tile `t` with tile `t + n`. -/
def stage (k : BitVec 32) (n : Nat) (v : Nat → FVec F S16x128 .bf16) (t : Nat) : FVec F S16x128 .bf16 :=
  fly k (v t) (v (t + n))

/-- A tile's rectangle lies in the block. -/
theorem inb_tile (g t : Nat) :
    ∀ a, (![16 * (g % 16), 128 * (t % 16)] : Fin 2 → Nat) a + S16x128.size a ≤ S256x2048.size a := fun a =>
  match a with
  | ⟨0, _⟩ => by show 16 * (g % 16) + 16 ≤ 256; omega
  | ⟨1, _⟩ => by show 128 * (t % 16) + 128 ≤ 2048; omega

/-- The absolute values of group `g`'s tile `t`: rows `16 g …`, columns `128 t …`. -/
def tile (x0 : Vec F S256x2048 .bf16) (g t : Nat) : FVec F S16x128 .bf16 :=
  absf (shapeCast S16x128 (View.ld x0 (Rect.unit (s := S256x2048) ![16 * (g % 16), 128 * (t % 16)] S16x128.size (inb_tile g t)))
    shapeCasts_S16x128_S16x128)

/-- The block maxima of group `g`, one block to a lane. -/
def blkMax (x0 : Vec F S256x2048 .bf16) (g : Nat) : FVec F S16x128 .bf16 :=
  stage 1#32 1 (stage 2#32 2 (stage 4#32 4 (stage 8#32 8 (tile x0 g)))) 0

/-- Each lane meets the lane whose number differs in the bits of `k`. -/
def meet (k : BitVec 32) (r : FVec F S16x128 .bf16) : FVec F S16x128 .bf16 := maximumf r (xlane k r)

/-- The maximum over all lanes, in every lane. -/
def rowMax (b : FVec F S16x128 .bf16) : FVec F S16x128 .bf16 :=
  meet 64#32 (meet 32#32 (meet 16#32 (meet 8#32 (meet 4#32 (meet 2#32 (meet 1#32 b))))))

/-! ## The scales of eight rows -/

/-- Half of sixteen rows lies in them. -/
theorem slices_half (h : Nat) : S16x128.Slices ![8 * (h % 2), 0] S8x128 :=
  ⟨rfl, fun a => match a with
    | ⟨0, _⟩ => by show 8 * (h % 2) + 8 ≤ 16; omega
    | ⟨1, _⟩ => by show 0 + 128 ≤ 128; omega⟩

/-- The upper or the lower eight of sixteen rows. -/
def half (h : Nat) (v : FVec F S16x128 .f32) : FVec F S8x128 .f32 :=
  extractStridedSlice S8x128 ![8 * (h % 2), 0] v (slices_half h)

/-- The block maxima of rows `8 n … 8 n + 7`, one block to a lane. -/
def bH (x0 : Vec F S256x2048 .bf16) (n : Nat) : FVec F S8x128 .f32 := half n (extf .f32 (blkMax x0 (n / 2)) bitsLt_bf16_f32)
/-- The row maxima of rows `8 n … 8 n + 7`, in every lane. -/
def rH (x0 : Vec F S256x2048 .bf16) (n : Nat) : FVec F S8x128 .f32 := half n (extf .f32 (rowMax (blkMax x0 (n / 2))) bitsLt_bf16_f32)

/-- The row scale from the row maximum. -/
def sgOf (r : FVec F S8x128 .f32) : FVec F S8x128 .f32 :=
  select (cmpf .ogt r (broadcast S8x128 (Scalar.ofBits .f32 0x00000000#32)))
    (divf r (broadcast S8x128 (Scalar.ofBits .f32 0x45280000#32))) (broadcast S8x128 (Scalar.ofBits .f32 0x3F800000#32))

/-- The block scale, rounded to eight bits and widened again. -/
def sbOf (b r : FVec F S8x128 .f32) : FVec F S8x128 .f32 :=
  extf .f32 (truncf .fp8e4m3 (minimumf (divf b (mulf (broadcast S8x128 (Scalar.ofBits .f32 0x40C00000#32)) (sgOf r)))
    (broadcast S8x128 (Scalar.ofBits .f32 0x43E00000#32))) bitsLt_fp8e4m3_f32) bitsLt_fp8e4m3_f32

/-- The reciprocal of the scale an element is divided by. -/
def invOf (b r : FVec F S8x128 .f32) : FVec F S8x128 .f32 :=
  divf (broadcast S8x128 (Scalar.ofBits .f32 0x3F800000#32))
    (select (cmpf .oeq (mulf (sbOf b r) (sgOf r)) (broadcast S8x128 (Scalar.ofBits .f32 0x00000000#32)))
      (broadcast S8x128 (Scalar.ofBits .f32 0x3F800000#32)) (mulf (sbOf b r) (sgOf r)))

/-- The reciprocals of rows `8 n … 8 n + 7`. -/
def inv (x0 : Vec F S256x2048 .bf16) (n : Nat) : FVec F S8x128 .f32 := invOf (bH x0 n) (rH x0 n)

/-- The lane that holds the block a lane is to name. -/
def sbIdx : IVec S8x128 32 :=
  addi (muli (andi lane8 (broadcast S8x128 7#32)) (broadcast S8x128 16#32)) (shrsi lane8 (broadcast S8x128 3#32))

/-- The block scales of rows `8 n … 8 n + 7`, in the order of the blocks. -/
def sbRow (x0 : Vec F S256x2048 .bf16) (n : Nat) : FVec F S8x128 .f32 :=
  dynamicGather 1 (sbOf (bH x0 n) (rH x0 n)) (wrap8 sbIdx)

/-- Thirty-two bands of eight rows, one below another. -/
def cat32 (f : Nat → FVec F S8x128 .f32) : FVec F S256x128 .f32 :=
  concatenate S256x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩, ⟨S8x128, f 8⟩, ⟨S8x128, f 9⟩, ⟨S8x128, f 10⟩, ⟨S8x128, f 11⟩, ⟨S8x128, f 12⟩, ⟨S8x128, f 13⟩, ⟨S8x128, f 14⟩, ⟨S8x128, f 15⟩, ⟨S8x128, f 16⟩, ⟨S8x128, f 17⟩, ⟨S8x128, f 18⟩, ⟨S8x128, f 19⟩, ⟨S8x128, f 20⟩, ⟨S8x128, f 21⟩, ⟨S8x128, f 22⟩, ⟨S8x128, f 23⟩, ⟨S8x128, f 24⟩, ⟨S8x128, f 25⟩, ⟨S8x128, f 26⟩, ⟨S8x128, f 27⟩, ⟨S8x128, f 28⟩, ⟨S8x128, f 29⟩, ⟨S8x128, f 30⟩, ⟨S8x128, f 31⟩]
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- The block scales the block stores. -/
def scales (x0 : Vec F S256x2048 .bf16) : FVec F S256x128 .fp8e4m3 :=
  truncf .fp8e4m3 (cat32 (sbRow x0)) bitsLt_fp8e4m3_f32

/-! ## The row scales on the diagonal -/

/-- Rows `8 n …` put on the diagonal of a tile: lane `8 n' + i` of row `i` becomes row `i`'s scale. -/
def diag (n : Nat) (k : BitVec 32) (x0 : Vec F S256x2048 .bf16) (acc : FVec F S8x128 .f32) : FVec F S8x128 .f32 :=
  select (cmpi .eq lane8 (addi sub8 (broadcast S8x128 k))) (sgOf (rH x0 n)) acc

/-- The row scales of rows `128 c …`, each in its own lane, zeros elsewhere. -/
def diags (x0 : Vec F S256x2048 .bf16) (c : Nat) : FVec F S8x128 .f32 :=
  diag (16 * c + 15) 120#32 x0 (diag (16 * c + 14) 112#32 x0 (diag (16 * c + 13) 104#32 x0 (diag (16 * c + 12) 96#32 x0 (diag (16 * c + 11) 88#32 x0 (diag (16 * c + 10) 80#32 x0 (diag (16 * c + 9) 72#32 x0 (diag (16 * c + 8) 64#32 x0 (diag (16 * c + 7) 56#32 x0 (diag (16 * c + 6) 48#32 x0 (diag (16 * c + 5) 40#32 x0 (diag (16 * c + 4) 32#32 x0 (diag (16 * c + 3) 24#32 x0 (diag (16 * c + 2) 16#32 x0 (diag (16 * c + 1) 8#32 x0 (diag (16 * c + 0) 0#32 x0 (broadcast S8x128 (Scalar.ofBits .f32 0x00000000#32)))))))))))))))))

/-- The row scales of rows `128 c …`, one to a lane. -/
def rowScales (x0 : Vec F S256x2048 .bf16) (c : Nat) : FVec F S1x1x128 .f32 :=
  shapeCast S1x1x128 (shapeCast S1x128 (multiReduction .add [0] S128 (diags x0 c) 0x00000000#32 reduces_S8x128_S128 (.inl rfl) rfl)
    shapeCasts_S128_S1x128) shapeCasts_S1x128_S1x1x128

/-! ## The codes -/

/-- A strip of columns lies in the block. -/
theorem inb_strip (t : Nat) : ∀ a, (![0, 256 * (t % 8)] : Fin 2 → Nat) a + S256x256.size a ≤ S256x2048.size a := fun a =>
  match a with
  | ⟨0, _⟩ => by show 0 + 256 ≤ 256; omega
  | ⟨1, _⟩ => by show 256 * (t % 8) + 256 ≤ 2048; omega

/-- Columns `256 t …` of the block with the even columns first. -/
def evenOdd (x0 : Vec F S256x2048 .bf16) (x1 : Vec F S256x256 .bf16) (t : Nat) : FVec F S256x256 .f32 :=
  matmul dot_S256x256_S256x256_S256x256_1_0_0_1_n_n none
    (shapeCast S256x256 (View.ld x0 (Rect.unit (s := S256x2048) ![0, 256 * (t % 8)] S256x256.size (inb_strip t))) shapeCasts_S256x256_S256x256)
    (shapeCast S256x256 (View.ld x1 (Rect.unit (s := S256x256) ![0, 0] S256x256.size inb_S256x256_S256x256_0_0)) shapeCasts_S256x256_S256x256)
    (constant S256x256 .f32 0x00000000#32)

/-- The lane that holds the block of a lane's element, in tile `t`. -/
def invIdx (t : Nat) : IVec S8x128 32 :=
  addi (muli (broadcast S8x128 16#32) (andi (shrsi lane8 (broadcast S8x128 3#32)) (broadcast S8x128 7#32)))
    (addi (broadcast S8x128 (BitVec.ofNat 32 (2 * t))) (shrsi (shrsi lane8 (broadcast S8x128 3#32)) (broadcast S8x128 3#32)))

/-- A band of eight rows of one half of the columns lies in the array. -/
theorem slices_band (n p : Nat) : S256x256.Slices ![8 * (n % 32), 128 * (p % 2)] S8x128 :=
  ⟨rfl, fun a => match a with
    | ⟨0, _⟩ => by show 8 * (n % 32) + 8 ≤ 256; omega
    | ⟨1, _⟩ => by show 128 * (p % 2) + 128 ≤ 256; omega⟩

/-- The quotients of rows `8 n …` of tile `t`, of the even (`p = 0`) or the odd (`p = 1`) columns. -/
def quot (x0 : Vec F S256x2048 .bf16) (x1 : Vec F S256x256 .bf16) (t p n : Nat) : FVec F S8x128 .f32 :=
  mulf (extractStridedSlice S8x128 ![8 * (n % 32), 128 * (p % 2)] (evenOdd x0 x1 t) (slices_band n p))
    (dynamicGather 1 (inv x0 n) (wrap8 (invIdx t)))

/-- One threshold's contribution to the magnitude. -/
def tick (c : IVec S256x128 1) : IVec S256x128 32 := select c (broadcast S256x128 1#32) (broadcast S256x128 0#32)

/-- The magnitude number of an absolute value: how many thresholds it passes. -/
def mag (a : FVec F S256x128 .f32) : IVec S256x128 32 :=
  addi (addi (addi (addi (addi (addi (addi (broadcast S256x128 0#32)
    (tick (cmpf .ogt a (broadcast S256x128 (Scalar.ofBits .f32 0x3E800000#32)))))
    (tick (cmpf .oge a (broadcast S256x128 (Scalar.ofBits .f32 0x3F400000#32)))))
    (tick (cmpf .ogt a (broadcast S256x128 (Scalar.ofBits .f32 0x3FA00000#32)))))
    (tick (cmpf .oge a (broadcast S256x128 (Scalar.ofBits .f32 0x3FE00000#32)))))
    (tick (cmpf .ogt a (broadcast S256x128 (Scalar.ofBits .f32 0x40200000#32)))))
    (tick (cmpf .oge a (broadcast S256x128 (Scalar.ofBits .f32 0x40600000#32)))))
    (tick (cmpf .ogt a (broadcast S256x128 (Scalar.ofBits .f32 0x40A00000#32))))

/-- The code of a quotient: its magnitude number, less eight for a negative one. -/
def code (v : FVec F S256x128 .f32) : IVec S256x128 8 :=
  trunci 8 (select (cmpf .olt v (broadcast S256x128 (Scalar.ofBits .f32 0x00000000#32)))
    (subi (mag (absf v)) (broadcast S256x128 8#32)) (mag (absf v))) natLt_8_32

/-- Two codes to a byte, the even column's in the low half. -/
def join (e o : IVec S256x128 8) : IVec S256x128 8 :=
  ori (andi e (broadcast S256x128 15#8)) (shli o (broadcast S256x128 4#8))

/-- Four bytes at a time: the sign of a code whose magnitude is zero is cleared. -/
def clean (b : IVec S256x128 8) : IVec S256x128 8 :=
  bitcast S256x128 8 (andi (bitcast S64x128 32 b bitcasts_S256x128_w8_S64x128_w32)
    (ori (addi (andi (bitcast S64x128 32 b bitcasts_S256x128_w8_S64x128_w32) (broadcast S64x128 2004318071#32))
      (broadcast S64x128 2004318071#32)) (broadcast S64x128 2004318071#32))) bitcasts_S64x128_w32_S256x128_w8

/-- The packed codes of tile `t`. -/
def packed (x0 : Vec F S256x2048 .bf16) (x1 : Vec F S256x256 .bf16) (t : Nat) : IVec S256x128 8 :=
  clean (join (code (cat32 (quot x0 x1 t 0))) (code (cat32 (quot x0 x1 t 1))))

end Cert.KernelIdeal.Body

end
-- ==== Proof.Spec.lean ====
/- The quantization of one row, as the mathematics has it: the largest absolute value of each block of sixteen columns and
   of the row, the row's scale, each block's scale, and each column's four-bit code, two to a byte. Beside it the code by
   thresholds on the unrounded quotient, and the proof that a pair of such codes with the sign of a zero magnitude cleared
   is the pair of codes of the rounded quotients. -/
module

public import Idealize.ShloMosaic.Lib.IdealHost
public import Idealize.ShloMosaic.PureOps.Ideal.Laws
public import Idealize.ShloMosaic.PureOps.Vector

@[expose] public section

noncomputable section

namespace Cert.Spec

open Idealize.ShloMosaic

/-- An f32 constant at the extended reals. -/
abbrev k32 (b : BitVec 32) : EReal := Scalar.ofBits (F := Ideal) .f32 b

/-- A comparison of extended reals as a bit. -/
abbrev cm (p : CmpFPredicate) (a b : EReal) : BitVec 1 := FloatOps.cmpf (F := Ideal) (φ := .f32) p a b

/-- The quotient. -/
abbrev dv (a b : EReal) : EReal := FloatOps.divf (F := Ideal) (φ := .f32) a b

/-- The absolute value. -/
abbrev ab (a : EReal) : EReal := FloatOps.absf (F := Ideal) (φ := .f32) a

/-! ## The scales -/

/-- The largest absolute value of block `j` of a row. -/
def bmax (X : Fin 2048 → EReal) (j : Fin 128) : EReal :=
  Finset.univ.sup fun s : Fin 16 => ab (X ⟨16 * j.val + s.val, by omega⟩)

/-- The largest absolute value of a row. -/
def rmax (X : Fin 2048 → EReal) : EReal := Finset.univ.sup (bmax X)

/-- The row scale from the row's largest absolute value. -/
def sgS (r : EReal) : EReal := Scalar.select (cm .ogt r (k32 0x00000000#32)) (dv r (k32 0x45280000#32)) (k32 0x3F800000#32)

/-- The block scale from the block's and the row's largest absolute values. -/
def sbS (b r : EReal) : EReal :=
  FloatOps.minimumf (F := Ideal) (φ := .f32) (dv b (FloatOps.mulf (F := Ideal) (φ := .f32) (k32 0x40C00000#32) (sgS r)))
    (k32 0x43E00000#32)

/-- The scale an element is divided by. -/
def effS (b r : EReal) : EReal :=
  Scalar.select (cm .oeq (FloatOps.mulf (F := Ideal) (φ := .f32) (sbS b r) (sgS r)) (k32 0x00000000#32)) (k32 0x3F800000#32)
    (FloatOps.mulf (F := Ideal) (φ := .f32) (sbS b r) (sgS r))

/-- The scale an element is divided by is never zero. -/
theorem effS_ne_zero (b r : EReal) : effS b r ≠ 0 := by
  unfold effS Scalar.select
  split
  · rw [show k32 0x3F800000#32 = Ideal.ofBits .f32 0x3F800000#32 from rfl, Ideal.ofBits_one_f32]; exact one_ne_zero
  · rename_i h
    intro h0
    apply h
    rw [h0]
    show BitVec.ofBool (decide ((0 : EReal) = Ideal.ofBits .f32 0x00000000#32)) = 1
    rw [Ideal.ofBits_zero_f32]; simp

/-- Multiplying by the reciprocal of a nonzero scale is dividing by it. -/
theorem mul_inv_eff (x e : EReal) (he : e ≠ 0) :
    FloatOps.mulf (F := Ideal) (φ := .f32) x (dv (k32 0x3F800000#32) e) = dv x e := by
  show x * Ideal.div (Ideal.ofBits .f32 0x3F800000#32) e = Ideal.div x e
  rw [Ideal.ofBits_one_f32]
  unfold Ideal.div
  rw [if_neg he, if_neg he, one_mul]

/-! ## The codes -/

/-- The spacing of the representable values around `u`. -/
def stepS (u : EReal) : EReal :=
  Scalar.select (cm .olt (ab u) (k32 0x40000000#32)) (k32 0x3F000000#32)
    (Scalar.select (cm .olt (ab u) (k32 0x40800000#32)) (k32 0x3F800000#32) (k32 0x40000000#32))

/-- The representable value nearest `u`, ties to the even multiple of the spacing. -/
def nearS (u : EReal) : EReal :=
  FloatOps.mulf (F := Ideal) (φ := .f32) (Scalar.roundeven (F := Ideal) (φ := .f32) (dv u (stepS u))) (stepS u)

/-- A comparison's bit as a byte. -/
def bit8 (c : BitVec 1) : BitVec 8 := c.setWidth 8

/-- The number of a magnitude among the representable ones. -/
def magS (a : EReal) : BitVec 8 :=
  0#8 + bit8 (cm .oge a (k32 0x3F000000#32)) + bit8 (cm .oge a (k32 0x3F800000#32)) + bit8 (cm .oge a (k32 0x3FC00000#32))
    + bit8 (cm .oge a (k32 0x40000000#32)) + bit8 (cm .oge a (k32 0x40400000#32)) + bit8 (cm .oge a (k32 0x40800000#32))
    + bit8 (cm .oge a (k32 0x40C00000#32))

/-- The quotient clipped to the representable range. -/
def clipS (v : EReal) : EReal :=
  FloatOps.minimumf (F := Ideal) (φ := .f32) (k32 0x40C00000#32) (FloatOps.maximumf (F := Ideal) (φ := .f32) (k32 0xC0C00000#32) v)

/-- The code of a representable value: eight for a negative one, and the magnitude's number. -/
def codeOf (w : EReal) : BitVec 8 := Scalar.select (cm .olt w (k32 0x00000000#32)) 8#8 0#8 + magS (ab w)

/-- The code of a quotient. -/
def codeS (v : EReal) : BitVec 8 := codeOf (nearS (clipS v))

/-- Two codes to a byte. -/
def byteS (v v' : EReal) : BitVec 8 := codeS v ||| (codeS v' <<< 4)

/-! ## The codes by thresholds on the quotient itself -/

/-- A comparison's bit as a word. -/
def tickT (c : BitVec 1) : BitVec 32 := Scalar.select c 1#32 0#32

/-- How many thresholds an absolute value passes. -/
def magT (a : EReal) : BitVec 32 :=
  0#32 + tickT (cm .ogt a (k32 0x3E800000#32)) + tickT (cm .oge a (k32 0x3F400000#32)) + tickT (cm .ogt a (k32 0x3FA00000#32))
    + tickT (cm .oge a (k32 0x3FE00000#32)) + tickT (cm .ogt a (k32 0x40200000#32)) + tickT (cm .oge a (k32 0x40600000#32))
    + tickT (cm .ogt a (k32 0x40A00000#32))

/-- The code of a quotient: its magnitude number, less eight for a negative quotient. -/
def codeT (v : EReal) : BitVec 8 :=
  (Scalar.select (cm .olt v (k32 0x00000000#32)) (magT (ab v) - 8#32) (magT (ab v))).setWidth 8

/-- Two codes to a byte. -/
def joinT (e o : BitVec 8) : BitVec 8 := (e &&& 15#8) ||| (o <<< 4)

/-- The sign of a code whose magnitude is zero is cleared. -/
def cleanT (y : BitVec 8) : BitVec 8 := y &&& (((y &&& 0x77#8) + 0x77#8) ||| 0x77#8)

end Cert.Spec

end
-- ==== Proof.Lanes.lean ====
/- The exchanges between lanes at the extended reals: what a block maximum and a row maximum of a group of sixteen rows are. -/
module

public import proofs.«01_k».proof.Proof.Body
public import proofs.«01_k».proof.Proof.Spec
public import Idealize.ShloMosaic.Lib.ValueIdx
public import Idealize.ShloMosaic.Lib.Pointwise.ElementwiseCore

@[expose] public section

set_option maxRecDepth 16384

noncomputable section

namespace Cert.KernelIdeal.Body

open Cert.KernelIdeal Cert.KernelIdeal.Gen Idealize.ShloMosaic Idealize.SL.Sem Cert.Spec
open Idealize.ShloMosaic.ValueIdx (ix2 ix3)

/-! ## Index words -/

/-- A lane index below the number of lanes is not counted from the end. -/
theorem wrap_word (w : BitVec 32) (h : w.toNat < 128) :
    Scalar.select (IntOp.cmpi .slt w 0#32) (IntOp.addi w 128#32) w = w := by
  have hs : w.slt 0#32 = false := by
    rw [BitVec.slt_eq_decide, BitVec.toInt_eq_toNat_cond]
    simp; omega
  show (if BitVec.ofBool (w.slt 0#32) = 1 then _ else w) = w
  rw [hs]; rfl

/-- Such an index over sixteen rows is used as it is. -/
theorem wrap16_apply (j : IVec S16x128 32) (i : S16x128.Idx) (h : (j i).toNat < 128) : wrap16 j i = j i := by
  unfold wrap16
  rw [shapeCast_shapeCast]
  exact wrap_word _ h

/-- Such an index over eight rows is used as it is. -/
theorem wrap8_apply (j : IVec S8x128 32) (i : S8x128.Idx) (h : (j i).toNat < 128) : wrap8 j i = j i := by
  unfold wrap8
  rw [shapeCast_shapeCast]
  exact wrap_word _ h

/-- A gather along the lanes of sixteen rows reads the lane the index names. -/
theorem gather16 (v : FVec Ideal S16x128 .f32) (j : IVec S16x128 32) (r : Fin 16) (l l' : Fin 128) (h : (j (ix2 r l)).toNat = l'.val) :
    dynamicGather 1 v (wrap16 j) (ix2 r l) = v (ix2 r l') := by
  rw [dynamicGather_apply]
  refine congrArg v (funext fun b => Fin.ext ?_)
  match b with
  | ⟨0, _⟩ => rfl
  | ⟨1, _⟩ =>
    show (wrap16 j (ix2 r l)).toNat % 128 = l'.val
    rw [wrap16_apply j _ (by omega), h, Nat.mod_eq_of_lt l'.isLt]

/-- A gather along the lanes of eight rows reads the lane the index names. -/
theorem gather8 (v : FVec Ideal S8x128 .f32) (j : IVec S8x128 32) (r : Fin 8) (l l' : Fin 128) (h : (j (ix2 r l)).toNat = l'.val) :
    dynamicGather 1 v (wrap8 j) (ix2 r l) = v (ix2 r l') := by
  rw [dynamicGather_apply]
  refine congrArg v (funext fun b => Fin.ext ?_)
  match b with
  | ⟨0, _⟩ => rfl
  | ⟨1, _⟩ =>
    show (wrap8 j (ix2 r l)).toNat % 128 = l'.val
    rw [wrap8_apply j _ (by omega), h, Nat.mod_eq_of_lt l'.isLt]

/-- The lane number over sixteen rows at a lane. -/
theorem lane16_apply (r : Fin 16) (l : Fin 128) : lane16 (ix2 r l) = BitVec.ofNat 32 l.val := iota_single_apply _ _ _ _ _ _
/-- The lane number over eight rows at a lane. -/
theorem lane8_apply (r : Fin 8) (l : Fin 128) : lane8 (ix2 r l) = BitVec.ofNat 32 l.val := iota_single_apply _ _ _ _ _ _
/-- The row number over eight rows at a row. -/
theorem sub8_apply (r : Fin 8) (l : Fin 128) : sub8 (ix2 r l) = BitVec.ofNat 32 r.val := iota_single_apply _ _ _ _ _ _

/-! ## Exchanges -/

/-- The lane whose number differs in the bits of `n`. -/
def px (n : Nat) (l : Fin 128) : Fin 128 := ⟨(l.val ^^^ n) % 128, Nat.mod_lt _ (by decide)⟩

/-- The word `k` is the number `n`, a lane's exchange partner differs from it in whether it has the bit, and a lane has
    either none or all of it. -/
structure Bit (k : BitVec 32) (n : Nat) : Prop where
  word : ∀ l : Fin 128, (BitVec.ofNat 32 l.val ^^^ k).toNat = (px n l).val
  low : ∀ l : Fin 128, (BitVec.ofNat 32 l.val &&& k = 0#32) ↔ l.val &&& n = 0
  flip : ∀ l : Fin 128, (px n l).val &&& n = 0 ↔ ¬ l.val &&& n = 0
  two : ∀ l : Fin 128, l.val &&& n = 0 ∨ l.val &&& n = n

/-- Exchanging over a distance of 1 lanes: the facts of `Bit`. -/
theorem bit1 : Bit 1#32 1 := ⟨by decide +kernel, by decide +kernel, by decide +kernel, by decide +kernel⟩
/-- Exchanging over a distance of 2 lanes: the facts of `Bit`. -/
theorem bit2 : Bit 2#32 2 := ⟨by decide +kernel, by decide +kernel, by decide +kernel, by decide +kernel⟩
/-- Exchanging over a distance of 4 lanes: the facts of `Bit`. -/
theorem bit4 : Bit 4#32 4 := ⟨by decide +kernel, by decide +kernel, by decide +kernel, by decide +kernel⟩
/-- Exchanging over a distance of 8 lanes: the facts of `Bit`. -/
theorem bit8 : Bit 8#32 8 := ⟨by decide +kernel, by decide +kernel, by decide +kernel, by decide +kernel⟩
/-- Exchanging over a distance of 16 lanes: the facts of `Bit`. -/
theorem bit16 : Bit 16#32 16 := ⟨by decide +kernel, by decide +kernel, by decide +kernel, by decide +kernel⟩
/-- Exchanging over a distance of 32 lanes: the facts of `Bit`. -/
theorem bit32 : Bit 32#32 32 := ⟨by decide +kernel, by decide +kernel, by decide +kernel, by decide +kernel⟩
/-- Exchanging over a distance of 64 lanes: the facts of `Bit`. -/
theorem bit64 : Bit 64#32 64 := ⟨by decide +kernel, by decide +kernel, by decide +kernel, by decide +kernel⟩

/-- An exchange reads the partner lane. -/
theorem xlane_apply {k : BitVec 32} {n : Nat} (hb : Bit k n) (v : FVec Ideal S16x128 .bf16) (r : Fin 16) (l : Fin 128) :
    xlane k v (ix2 r l) = v (ix2 r (px n l)) :=
  gather16 (extf .f32 v bitsLt_bf16_f32) _ r l (px n l) (by
    show (lane16 (ix2 r l) ^^^ k).toNat = _
    rw [lane16_apply]; exact hb.word l)

/-- The mask of an exchange at a lane. -/
theorem low_apply {k : BitVec 32} {n : Nat} (hb : Bit k n) (r : Fin 16) (l : Fin 128) :
    low k (ix2 r l) = BitVec.ofBool (decide (l.val &&& n = 0)) := by
  show BitVec.ofBool ((lane16 (ix2 r l) &&& k) == 0#32) = _
  rw [lane16_apply, beq_eq_decide, decide_eq_decide.2 (hb.low l)]

/-- A select by the mask. -/
theorem select_low {k : BitVec 32} {n : Nat} (hb : Bit k n) (a b : FVec Ideal S16x128 .bf16) (r : Fin 16) (l : Fin 128) :
    select (low k) a b (ix2 r l) = if l.val &&& n = 0 then a (ix2 r l) else b (ix2 r l) := by
  show (if low k (ix2 r l) = 1 then a (ix2 r l) else b (ix2 r l)) = _
  rw [low_apply hb]
  by_cases h : l.val &&& n = 0 <;> simp [h]

/-- A stage of exchanges at a lane: the larger of its own and its partner's value of one of the two tiles. -/
theorem stage_apply {k : BitVec 32} {n : Nat} (hb : Bit k n) (v : Nat → FVec Ideal S16x128 .bf16) (t : Nat) (r : Fin 16) (l : Fin 128) :
    stage k n v t (ix2 r l) = max (v (t + (l.val &&& n)) (ix2 r l) : EReal) (v (t + (l.val &&& n)) (ix2 r (px n l))) := by
  show max (select (low k) (v t) (v (t + n)) (ix2 r l) : EReal) (xlane k (select (low k) (v (t + n)) (v t)) (ix2 r l)) = _
  rw [xlane_apply hb, select_low hb, select_low hb]
  rcases hb.two l with h | h
  · rw [if_pos h, if_neg (fun h' => (hb.flip l).1 h' h), h, Nat.add_zero]
  · by_cases h0 : l.val &&& n = 0
    · rw [if_pos h0, if_neg (fun h' => (hb.flip l).1 h' h0), h0, Nat.add_zero]
    · rw [if_neg h0, if_pos ((hb.flip l).2 h0), h]

/-- The tiles and lanes whose values a stage's lanes meet. -/
def leaves (n : Nat) (L : List (Nat × Fin 128)) : List (Nat × Fin 128) :=
  L.flatMap fun p => [(p.1 + (p.2.val &&& n), p.2), (p.1 + (p.2.val &&& n), px n p.2)]

/-- Bounds on a stage's values are bounds on the values it meets. -/
theorem stage_le {k : BitVec 32} {n : Nat} (hb : Bit k n) (v : Nat → FVec Ideal S16x128 .bf16) (r : Fin 16) (M : EReal)
    (L : List (Nat × Fin 128)) :
    (∀ p ∈ L, (stage k n v p.1 (ix2 r p.2) : EReal) ≤ M) ↔ ∀ p ∈ leaves n L, (v p.1 (ix2 r p.2) : EReal) ≤ M := by
  constructor
  · intro h p hp
    obtain ⟨q, hq, hp⟩ := List.mem_flatMap.1 hp
    have hq := h q hq
    rw [stage_apply hb, max_le_iff] at hq
    rcases List.mem_cons.1 hp with rfl | hp
    · exact hq.1
    · rw [List.mem_singleton.1 hp]; exact hq.2
  · intro h p hp
    rw [stage_apply hb, max_le_iff]
    exact ⟨h _ (List.mem_flatMap.2 ⟨p, hp, List.mem_cons_self⟩),
      h _ (List.mem_flatMap.2 ⟨p, hp, List.mem_cons_of_mem _ (List.mem_singleton.2 rfl)⟩)⟩

/-- What a lane of the block maxima has met. -/
def met (l : Fin 128) : List (Nat × Fin 128) := leaves 8 (leaves 4 (leaves 2 (leaves 1 [(0, l)])))

/-- A lane has met exactly the sixteen columns of one block. -/
theorem met_block : ∀ l : Fin 128,
    (∀ s : Fin 16, ∃ p ∈ met l, 128 * (p.1 % 16) + p.2.val = 16 * (8 * (l.val % 16) + l.val / 16) + s.val)
    ∧ (∀ p ∈ met l, (128 * (p.1 % 16) + p.2.val) / 16 = 8 * (l.val % 16) + l.val / 16) := by decide +kernel

/-- Row `R` of a block. -/
abbrev rowOf (x0 : Vec Ideal S256x2048 .bf16) (R : Fin 256) : Fin 2048 → EReal := fun c => x0 (ix2 R c)

/-- A tile's element. -/
theorem tile_apply (x0 : Vec Ideal S256x2048 .bf16) (g t : Nat) (r : Fin 16) (l : Fin 128) (R : Fin 256) (c : Fin 2048)
    (hR : R.val = 16 * (g % 16) + r.val) (hc : c.val = 128 * (t % 16) + l.val) :
    (tile x0 g t (ix2 r l) : EReal) = ab (rowOf x0 R c) := by
  refine congrArg (fun z => ab z) ((congrFun (shapeCast_self _ _) (ix2 r l)).trans (congrArg x0 (funext fun a => Fin.ext ?_)))
  match a with
  | ⟨0, _⟩ => show 16 * (g % 16) + 1 * r.val = R.val; omega
  | ⟨1, _⟩ => show 128 * (t % 16) + 1 * l.val = c.val; omega

/-- The block a lane of the block maxima holds. -/
def blkOf (l : Fin 128) : Fin 128 := ⟨8 * (l.val % 16) + l.val / 16, by omega⟩

/-- The block maxima of a group are the largest absolute values of the blocks. -/
theorem blkMax_apply (x0 : Vec Ideal S256x2048 .bf16) (g : Nat) (r : Fin 16) (l : Fin 128) (R : Fin 256)
    (hR : R.val = 16 * (g % 16) + r.val) : (blkMax x0 g (ix2 r l) : EReal) = bmax (rowOf x0 R) (blkOf l) := by
  refine eq_of_forall_ge_iff fun M => ?_
  have h0 : ((blkMax x0 g (ix2 r l) : EReal) ≤ M) ↔ ∀ p ∈ met l, (tile x0 g p.1 (ix2 r p.2) : EReal) ≤ M := by
    unfold met
    rw [← stage_le bit8, ← stage_le bit4, ← stage_le bit2, ← stage_le bit1]
    simp only [List.mem_singleton, forall_eq]
    rfl
  rw [h0]
  unfold bmax
  rw [Finset.sup_le_iff]
  obtain ⟨h1, h2⟩ := met_block l
  constructor
  · intro h s _
    obtain ⟨p, hp, hs⟩ := h1 s
    have := h p hp
    rwa [tile_apply x0 g p.1 r p.2 R ⟨16 * (blkOf l).val + s.val, by have := (blkOf l).isLt; omega⟩ hR hs.symm] at this
  · intro h p hp
    have hd := h2 p hp
    have hl := p.2.isLt
    have := h ⟨(128 * (p.1 % 16) + p.2.val) % 16, by omega⟩ (Finset.mem_univ _)
    rw [tile_apply x0 g p.1 r p.2 R ⟨128 * (p.1 % 16) + p.2.val, by omega⟩ hR rfl]
    refine le_of_eq_of_le (congrArg (fun c => ab (rowOf x0 R c)) (Fin.ext ?_)) this
    show _ = 16 * (8 * (l.val % 16) + l.val / 16) + (128 * (p.1 % 16) + p.2.val) % 16
    rw [← hd]; exact (Nat.div_add_mod _ 16).symm

/-- Meeting the partner at bit `n`: from the lanes within `n` to the lanes within `2 n`. -/
theorem meet_le {k : BitVec 32} {n : Nat} (hb : Bit k n) (hn : ∀ j < n, ∀ l : Fin 128, px j (px n l) = px (n + j) l)
    (b v : FVec Ideal S16x128 .bf16) (r : Fin 16) (M : EReal)
    (hv : ∀ l, ((v (ix2 r l) : EReal) ≤ M ↔ ∀ j < n, (b (ix2 r (px j l)) : EReal) ≤ M)) (l : Fin 128) :
    ((meet k v (ix2 r l) : EReal) ≤ M ↔ ∀ j < n + n, (b (ix2 r (px j l)) : EReal) ≤ M) := by
  have e : (meet k v (ix2 r l) : EReal) = max (v (ix2 r l) : EReal) (v (ix2 r (px n l))) := by
    show max (v (ix2 r l) : EReal) (xlane k v (ix2 r l)) = _
    rw [xlane_apply hb]
  rw [e, max_le_iff, hv, hv]
  constructor
  · rintro ⟨h1, h2⟩ j hj
    by_cases h : j < n
    · exact h1 j h
    · have := h2 (j - n) (by omega)
      rwa [hn _ (by omega), Nat.add_sub_cancel' (by omega)] at this
  · intro h
    exact ⟨fun j hj => h j (by omega), fun j hj => by rw [hn j hj]; exact h _ (by omega)⟩

/-- The row maximum is the largest of the lanes, in every lane. -/
theorem rowMax_apply (b : FVec Ideal S16x128 .bf16) (r : Fin 16) (l : Fin 128) :
    (rowMax b (ix2 r l) : EReal) = Finset.univ.sup fun l' : Fin 128 => (b (ix2 r l') : EReal) := by
  refine eq_of_forall_ge_iff fun M => ?_
  have p0 : ∀ l : Fin 128, px 0 l = l := by decide +kernel
  have h0 : ∀ l, ((b (ix2 r l) : EReal) ≤ M ↔ ∀ j < 1, (b (ix2 r (px j l)) : EReal) ≤ M) := fun l => by
    constructor
    · intro h j hj
      obtain rfl : j = 0 := by omega
      rwa [p0]
    · intro h
      have := h 0 (by omega)
      rwa [p0] at this
  have h1 := meet_le bit1 (by decide +kernel) b _ r M h0
  have h2 := meet_le bit2 (by decide +kernel) b _ r M h1
  have h3 := meet_le bit4 (by decide +kernel) b _ r M h2
  have h4 := meet_le bit8 (by decide +kernel) b _ r M h3
  have h5 := meet_le bit16 (by decide +kernel) b _ r M h4
  have h6 := meet_le bit32 (by decide +kernel) b _ r M h5
  have h7 := meet_le bit64 (by decide +kernel) b _ r M h6
  refine (h7 l).trans ?_
  rw [Finset.sup_le_iff]
  constructor
  · intro h l' _
    have hx : l.val ^^^ l'.val < 2 ^ 7 := Nat.xor_lt_two_pow l.isLt l'.isLt
    have := h (l.val ^^^ l'.val) hx
    have e : px (l.val ^^^ l'.val) l = l' := Fin.ext (by
      show (l.val ^^^ (l.val ^^^ l'.val)) % 128 = l'.val
      rw [← Nat.xor_assoc, Nat.xor_self, Nat.zero_xor, Nat.mod_eq_of_lt l'.isLt])
    rwa [e] at this
  · intro h j _
    exact h _ (Finset.mem_univ _)

/-- Every block is some lane's. -/
theorem blkOf_surj : ∀ j : Fin 128, blkOf ⟨16 * (j.val % 8) + j.val / 8, by omega⟩ = j := by decide +kernel

/-- The row maximum of the block maxima is the row's largest absolute value. -/
theorem rowMax_blkMax (x0 : Vec Ideal S256x2048 .bf16) (g : Nat) (r : Fin 16) (l : Fin 128) (R : Fin 256)
    (hR : R.val = 16 * (g % 16) + r.val) : (rowMax (blkMax x0 g) (ix2 r l) : EReal) = rmax (rowOf x0 R) := by
  rw [rowMax_apply]
  refine eq_of_forall_ge_iff fun M => ?_
  unfold rmax
  rw [Finset.sup_le_iff, Finset.sup_le_iff]
  constructor
  · intro h j _
    have := h ⟨16 * (j.val % 8) + j.val / 8, by omega⟩ (Finset.mem_univ _)
    rwa [blkMax_apply x0 g r _ R hR, blkOf_surj] at this
  · intro h l' _
    rw [blkMax_apply x0 g r _ R hR]
    exact h _ (Finset.mem_univ _)

end Cert.KernelIdeal.Body

end
-- ==== Proof.Scales.lean ====
/- The scales a block stores, at the extended reals: each row's scale and each block's scale of the block's rows. -/
module

public import proofs.«01_k».proof.Proof.Lanes

@[expose] public section

set_option maxRecDepth 16384

noncomputable section

namespace Cert.KernelIdeal.Body

open Cert.KernelIdeal Cert.KernelIdeal.Gen Idealize.ShloMosaic Idealize.SL.Sem Cert.Spec
open Idealize.ShloMosaic.ValueIdx (ix1 ix2 ix3)

/-- Row `8 n + i` of a block. -/
abbrev bandRow (n : Nat) (hn : n < 32) (i : Fin 8) : Fin 256 := ⟨8 * n + i.val, by omega⟩

/-- Thirty-two bands of eight rows read at a row. -/
theorem cat32_apply (f : Nat → FVec Ideal S8x128 .f32) (p : Fin 256) (l : Fin 128) :
    cat32 f (ix2 p l) = f (p.val / 8) (ix2 ⟨p.val % 8, Nat.mod_lt _ (by decide)⟩ l) := by
  have hp := p.isLt
  refine concatenate_ofFn_apply (s₁ := S8x128) (t := S256x128) 0 (fun n : Fin 32 => f n.val)
    (concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0) rfl 8 rfl
    (ix2 p l) ⟨p.val / 8, by omega⟩ rfl (ix2 ⟨p.val % 8, Nat.mod_lt _ (by decide)⟩ l) rfl ?_
  intro b hb
  match b with
  | ⟨0, _⟩ => exact absurd rfl hb
  | ⟨1, _⟩ => rfl

/-- A half of sixteen rows read at a row. -/
theorem half_apply (h : Nat) (v : FVec Ideal S16x128 .f32) (i : Fin 8) (l : Fin 128) (r : Fin 16) (hr : r.val = 8 * (h % 2) + i.val) :
    half h v (ix2 i l) = v (ix2 r l) := by
  refine congrArg v (funext fun a => Fin.ext ?_)
  match a with
  | ⟨0, _⟩ => exact hr.symm
  | ⟨1, _⟩ => exact Nat.zero_add _

/-- The block maxima of eight rows. -/
theorem bH_apply (x0 : Vec Ideal S256x2048 .bf16) (n : Nat) (hn : n < 32) (i : Fin 8) (l : Fin 128) :
    (bH x0 n (ix2 i l) : EReal) = bmax (rowOf x0 (bandRow n hn i)) (blkOf l) :=
  (half_apply n _ i l ⟨8 * (n % 2) + i.val, by omega⟩ rfl).trans
    (blkMax_apply x0 (n / 2) _ l (bandRow n hn i) (by show 8 * n + i.val = 16 * (n / 2 % 16) + (8 * (n % 2) + i.val); omega))

/-- The row maxima of eight rows. -/
theorem rH_apply (x0 : Vec Ideal S256x2048 .bf16) (n : Nat) (hn : n < 32) (i : Fin 8) (l : Fin 128) :
    (rH x0 n (ix2 i l) : EReal) = rmax (rowOf x0 (bandRow n hn i)) :=
  (half_apply n _ i l ⟨8 * (n % 2) + i.val, by omega⟩ rfl).trans
    (rowMax_blkMax x0 (n / 2) _ l (bandRow n hn i) (by show 8 * n + i.val = 16 * (n / 2 % 16) + (8 * (n % 2) + i.val); omega))

/-- The row scale at an index. -/
theorem sgOf_apply (r : FVec Ideal S8x128 .f32) (j : S8x128.Idx) : (sgOf r j : EReal) = sgS (r j) := rfl

/-- The block scale at an index. -/
theorem sbOf_apply (b r : FVec Ideal S8x128 .f32) (j : S8x128.Idx) : (sbOf b r j : EReal) = sbS (b j) (r j) := rfl

/-- The reciprocal at an index. -/
theorem invOf_apply (b r : FVec Ideal S8x128 .f32) (j : S8x128.Idx) :
    (invOf b r j : EReal) = dv (k32 0x3F800000#32) (effS (b j) (r j)) := rfl

/-- The reciprocals of eight rows. -/
theorem inv_apply (x0 : Vec Ideal S256x2048 .bf16) (n : Nat) (hn : n < 32) (i : Fin 8) (l : Fin 128) :
    (inv x0 n (ix2 i l) : EReal)
      = dv (k32 0x3F800000#32) (effS (bmax (rowOf x0 (bandRow n hn i)) (blkOf l)) (rmax (rowOf x0 (bandRow n hn i)))) := by
  unfold inv
  rw [invOf_apply, bH_apply x0 n hn, rH_apply x0 n hn]

/-! ## The block scales -/

/-- The lane that holds block `l`. -/
def laneOf (l : Fin 128) : Fin 128 := ⟨16 * (l.val % 8) + l.val / 8, by omega⟩

/-- The lane number a lane names for its block scale, as a word: the lane that holds block `l`. -/
theorem sbIdx_word : ∀ l : Fin 128,
    (IntOp.addi (IntOp.muli (IntOp.andi (BitVec.ofNat 32 l.val) 7#32) 16#32) (IntOp.shrsi .vector (BitVec.ofNat 32 l.val) 3#32)).toNat
      = (laneOf l).val := by decide +kernel

/-- The lane a lane is to name. -/
theorem sbIdx_apply (i : Fin 8) (l : Fin 128) : (sbIdx (ix2 i l)).toNat = (laneOf l).val := by
  have e : sbIdx (ix2 i l) = IntOp.addi (IntOp.muli (IntOp.andi (lane8 (ix2 i l)) 7#32) 16#32)
    (IntOp.shrsi .vector (lane8 (ix2 i l)) 3#32) := rfl
  rw [e, lane8_apply]
  exact sbIdx_word l

/-- The block scales of eight rows, in the order of the blocks. -/
theorem sbRow_apply (x0 : Vec Ideal S256x2048 .bf16) (n : Nat) (hn : n < 32) (i : Fin 8) (l : Fin 128) :
    (sbRow x0 n (ix2 i l) : EReal) = sbS (bmax (rowOf x0 (bandRow n hn i)) l) (rmax (rowOf x0 (bandRow n hn i))) := by
  unfold sbRow
  rw [gather8 _ sbIdx i l (laneOf l) (sbIdx_apply i l), sbOf_apply, bH_apply x0 n hn, rH_apply x0 n hn,
    show blkOf (laneOf l) = l from blkOf_surj l]

/-- The block scales the block stores are its rows' block scales. -/
theorem scales_apply (x0 : Vec Ideal S256x2048 .bf16) (p : Fin 256) (l : Fin 128) :
    (scales x0 (ix2 p l) : EReal) = sbS (bmax (rowOf x0 p) l) (rmax (rowOf x0 p)) := by
  have hp := p.isLt
  have e : (scales x0 (ix2 p l) : EReal) = cat32 (sbRow x0) (ix2 p l) := rfl
  rw [e, cat32_apply, sbRow_apply x0 _ (by omega)]
  have hr : bandRow (p.val / 8) (by omega) ⟨p.val % 8, Nat.mod_lt _ (by decide)⟩ = p := Fin.ext (Nat.div_add_mod _ 8)
  rw [hr]

/-! ## The row scales -/

/-- A row put on the diagonal, at an index. -/
theorem diag_apply (n : Nat) (hn : n < 32) (k : BitVec 32) (hk : k.toNat < 121) (x0 : Vec Ideal S256x2048 .bf16)
    (acc : FVec Ideal S8x128 .f32) (i : Fin 8) (l : Fin 128) :
    (diag n k x0 acc (ix2 i l) : EReal) = if l.val = i.val + k.toNat then sgS (rmax (rowOf x0 (bandRow n hn i))) else acc (ix2 i l) := by
  have hi := i.isLt
  have hl := l.isLt
  have e : (diag n k x0 acc (ix2 i l) : EReal)
    = Scalar.select (IntOp.cmpi .eq (lane8 (ix2 i l)) (IntOp.addi (sub8 (ix2 i l)) k)) (sgOf (rH x0 n) (ix2 i l)) (acc (ix2 i l)) := rfl
  rw [e, lane8_apply, sub8_apply, sgOf_apply, rH_apply x0 n hn]
  have hd : (BitVec.ofNat 32 l.val = BitVec.ofNat 32 i.val + k) ↔ l.val = i.val + k.toNat := by
    rw [← BitVec.toNat_inj, BitVec.toNat_add, BitVec.toNat_ofNat, BitVec.toNat_ofNat]
    omega
  show (if BitVec.ofBool (BitVec.ofNat 32 l.val == BitVec.ofNat 32 i.val + k) = 1 then sgS (rmax (rowOf x0 (bandRow n hn i))) else acc (ix2 i l)) = _
  by_cases h : l.val = i.val + k.toNat
  · rw [if_pos h, beq_iff_eq.2 (hd.2 h)]; rfl
  · rw [if_neg h, beq_eq_false_iff_ne.2 (fun e => h (hd.1 e))]; rfl

/-- The row scales on the diagonal: lane `l` of row `l % 8` holds row `128 c + l`'s scale, the others zero. -/
theorem diags_apply (x0 : Vec Ideal S256x2048 .bf16) (c : Nat) (hc : c < 2) (i : Fin 8) (l : Fin 128) :
    (diags x0 c (ix2 i l) : EReal)
      = if i.val = l.val % 8 then sgS (rmax (rowOf x0 ⟨128 * c + l.val, by omega⟩)) else 0 := by
  have hi := i.isLt
  have hl := l.isLt
  unfold diags
  rw [diag_apply (16 * c + 15) (by omega) 120#32 (by decide),
    diag_apply (16 * c + 14) (by omega) 112#32 (by decide),
    diag_apply (16 * c + 13) (by omega) 104#32 (by decide),
    diag_apply (16 * c + 12) (by omega) 96#32 (by decide),
    diag_apply (16 * c + 11) (by omega) 88#32 (by decide),
    diag_apply (16 * c + 10) (by omega) 80#32 (by decide),
    diag_apply (16 * c + 9) (by omega) 72#32 (by decide),
    diag_apply (16 * c + 8) (by omega) 64#32 (by decide),
    diag_apply (16 * c + 7) (by omega) 56#32 (by decide),
    diag_apply (16 * c + 6) (by omega) 48#32 (by decide),
    diag_apply (16 * c + 5) (by omega) 40#32 (by decide),
    diag_apply (16 * c + 4) (by omega) 32#32 (by decide),
    diag_apply (16 * c + 3) (by omega) 24#32 (by decide),
    diag_apply (16 * c + 2) (by omega) 16#32 (by decide),
    diag_apply (16 * c + 1) (by omega) 8#32 (by decide),
    diag_apply (16 * c + 0) (by omega) 0#32 (by decide)]
  have z : ((broadcast S8x128 (Scalar.ofBits (F := Ideal) .f32 0x00000000#32) : FVec Ideal S8x128 .f32) (ix2 i l) : EReal) = 0 :=
    Ideal.ofBits_zero_f32
  rw [z]
  have hb : ∀ n (hn : n < 32), 8 * n + i.val = 128 * c + l.val →
      sgS (rmax (rowOf x0 (bandRow n hn i))) = sgS (rmax (rowOf x0 ⟨128 * c + l.val, by omega⟩)) := fun n hn h =>
    congrArg (fun R => sgS (rmax (rowOf x0 R))) (Fin.ext h)
  simp only [BitVec.toNat_ofNat]
  by_cases h15 : l.val = i.val + 120
  · rw [if_pos (by omega), if_pos (by omega), hb _ _ (by omega)]
  rw [if_neg (by omega)]
  by_cases h14 : l.val = i.val + 112
  · rw [if_pos (by omega), if_pos (by omega), hb _ _ (by omega)]
  rw [if_neg (by omega)]
  by_cases h13 : l.val = i.val + 104
  · rw [if_pos (by omega), if_pos (by omega), hb _ _ (by omega)]
  rw [if_neg (by omega)]
  by_cases h12 : l.val = i.val + 96
  · rw [if_pos (by omega), if_pos (by omega), hb _ _ (by omega)]
  rw [if_neg (by omega)]
  by_cases h11 : l.val = i.val + 88
  · rw [if_pos (by omega), if_pos (by omega), hb _ _ (by omega)]
  rw [if_neg (by omega)]
  by_cases h10 : l.val = i.val + 80
  · rw [if_pos (by omega), if_pos (by omega), hb _ _ (by omega)]
  rw [if_neg (by omega)]
  by_cases h9 : l.val = i.val + 72
  · rw [if_pos (by omega), if_pos (by omega), hb _ _ (by omega)]
  rw [if_neg (by omega)]
  by_cases h8 : l.val = i.val + 64
  · rw [if_pos (by omega), if_pos (by omega), hb _ _ (by omega)]
  rw [if_neg (by omega)]
  by_cases h7 : l.val = i.val + 56
  · rw [if_pos (by omega), if_pos (by omega), hb _ _ (by omega)]
  rw [if_neg (by omega)]
  by_cases h6 : l.val = i.val + 48
  · rw [if_pos (by omega), if_pos (by omega), hb _ _ (by omega)]
  rw [if_neg (by omega)]
  by_cases h5 : l.val = i.val + 40
  · rw [if_pos (by omega), if_pos (by omega), hb _ _ (by omega)]
  rw [if_neg (by omega)]
  by_cases h4 : l.val = i.val + 32
  · rw [if_pos (by omega), if_pos (by omega), hb _ _ (by omega)]
  rw [if_neg (by omega)]
  by_cases h3 : l.val = i.val + 24
  · rw [if_pos (by omega), if_pos (by omega), hb _ _ (by omega)]
  rw [if_neg (by omega)]
  by_cases h2 : l.val = i.val + 16
  · rw [if_pos (by omega), if_pos (by omega), hb _ _ (by omega)]
  rw [if_neg (by omega)]
  by_cases h1 : l.val = i.val + 8
  · rw [if_pos (by omega), if_pos (by omega), hb _ _ (by omega)]
  rw [if_neg (by omega)]
  by_cases h0 : l.val = i.val + 0
  · rw [if_pos (by omega), if_pos (by omega), hb _ _ (by omega)]
  rw [if_neg (by omega)]
  rw [if_neg (by omega)]

/-- The row scales a half of the block stores. -/
theorem rowScales_apply (x0 : Vec Ideal S256x2048 .bf16) (c : Nat) (hc : c < 2) (a b : Fin 1) (l : Fin 128) :
    (rowScales x0 c (ix3 a b l) : EReal) = sgS (rmax (rowOf x0 ⟨128 * c + l.val, by omega⟩)) := by
  unfold rowScales
  have ha := a.isLt
  have hb := b.isLt
  have hl := l.isLt
  refine (shapeCast_apply _ _ (ix3 a b l) (ix2 0 l) (by
    rw [Shape.rowMajor_val_two, Shape.rowMajor_val_three]
    show 0 * 128 + l.val = (a.val * 1 + b.val) * 128 + l.val; omega)).trans ?_
  refine (shapeCast_apply _ _ (ix2 0 l) (ix1 l) (by
    rw [Shape.rowMajor_val_one, Shape.rowMajor_val_two]
    show l.val = 0 * 128 + l.val; omega)).trans ?_
  refine (Ideal.multiReduction_add_single (diags x0 c) _ reduces_S8x128_S128 (.inl rfl) rfl (ix1 l)).trans ?_
  have e : ∀ k : Fin 8, (diags x0 c (reduces_S8x128_S128.lift (ix1 l) k) : EReal)
      = if k.val = l.val % 8 then sgS (rmax (rowOf x0 ⟨128 * c + l.val, by omega⟩)) else 0 := fun k => by
    rw [← diags_apply x0 c hc k l]
    refine congrArg (diags x0 c) (funext fun a => Fin.ext ?_)
    match a with
    | ⟨0, _⟩ => rfl
    | ⟨1, _⟩ => rfl
  refine (Finset.sum_congr rfl fun k _ => e k).trans ?_
  refine (Finset.sum_eq_single (⟨l.val % 8, Nat.mod_lt _ (by decide)⟩ : Fin 8) (fun k _ hk => ?_) (fun h => absurd (Finset.mem_univ _) h)).trans ?_
  · exact if_neg fun h => hk (Fin.ext h)
  · exact if_pos rfl

end Cert.KernelIdeal.Body

end
-- ==== Proof.Scalar.lean ====
/- The code by thresholds on the quotient against the code of the rounded quotient: both are given by the sign of the quotient
   and the number of the nearest representable magnitude. -/
module

public import proofs.«01_k».proof.Proof.Spec
public import Mathlib.Tactic.FinCases
public import Mathlib.Tactic.IntervalCases

@[expose] public section

noncomputable section

namespace Cert.Spec

open Idealize.ShloMosaic

/-- The constants the codes are made with. -/
theorem k32_vals :
    k32 0x00000000#32 = ((0 : ℝ) : EReal) ∧ k32 0x3E800000#32 = ((1 / 4 : ℝ) : EReal) ∧ k32 0x3F000000#32 = ((1 / 2 : ℝ) : EReal)
    ∧ k32 0x3F400000#32 = ((3 / 4 : ℝ) : EReal) ∧ k32 0x3F800000#32 = ((1 : ℝ) : EReal) ∧ k32 0x3FA00000#32 = ((5 / 4 : ℝ) : EReal)
    ∧ k32 0x3FC00000#32 = ((3 / 2 : ℝ) : EReal) ∧ k32 0x3FE00000#32 = ((7 / 4 : ℝ) : EReal) ∧ k32 0x40000000#32 = ((2 : ℝ) : EReal)
    ∧ k32 0x40200000#32 = ((5 / 2 : ℝ) : EReal) ∧ k32 0x40400000#32 = ((3 : ℝ) : EReal) ∧ k32 0x40600000#32 = ((7 / 2 : ℝ) : EReal)
    ∧ k32 0x40800000#32 = ((4 : ℝ) : EReal) ∧ k32 0x40A00000#32 = ((5 : ℝ) : EReal) ∧ k32 0x40C00000#32 = ((6 : ℝ) : EReal)
    ∧ k32 0xC0C00000#32 = ((-6 : ℝ) : EReal) := by
  refine ⟨?_, ?_, ?_, ?_, ?_, ?_, ?_, ?_, ?_, ?_, ?_, ?_, ?_, ?_, ?_, ?_⟩ <;>
  · show Ideal.ofBits .f32 _ = _
    simp [Ideal.ofBits, Ideal.ieee, -EReal.coe_mul, -EReal.coe_neg]
    try norm_num

/-- A rational nearest integer, ties to the even one. -/
theorem rhe_eq {y : ℝ} {n : ℤ} (h : ((n : ℝ) - 1 / 2 < y ∧ y < n + 1 / 2) ∨ (Even n ∧ (n : ℝ) - 1 / 2 ≤ y ∧ y ≤ n + 1 / 2)) :
    Ideal.roundHalfEven y = n := by
  have hb : (n : ℝ) - 1 / 2 ≤ y ∧ y ≤ n + 1 / 2 := by
    rcases h with h | h
    · exact ⟨h.1.le, h.2.le⟩
    · exact h.2
  unfold Ideal.roundHalfEven
  by_cases hy : (n : ℝ) ≤ y
  · have hf : ⌊y⌋ = n := by rw [Int.floor_eq_iff]; exact ⟨hy, by linarith [hb.2]⟩
    simp only [hf]
    split
    · rfl
    · rename_i h1
      have h2 : ¬ (1 / 2 < y - n) := by linarith [hb.2]
      rw [if_neg h2]
      rcases h with h | h
      · exact absurd (by linarith [h.2]) h1
      · rw [if_pos h.1]
  · have hf : ⌊y⌋ = n - 1 := by
      rw [Int.floor_eq_iff]; push_cast; exact ⟨by linarith [hb.1], by linarith [lt_of_not_ge hy]⟩
    simp only [hf]
    have h1 : ¬ (y - ((n - 1 : ℤ) : ℝ) < 1 / 2) := by push_cast; linarith [hb.1]
    rw [if_neg h1]
    split
    · ring
    · rename_i h2
      rcases h with h | h
      · exact absurd (by push_cast; linarith [h.1]) h2
      · have : ¬ Even (n - 1) := by
          intro he
          have := h.1
          rw [Int.even_iff] at he this
          omega
        rw [if_neg this]; ring

/-- The nearest integer of a number and of its negative. -/
theorem rhe_pm {y : ℝ} {n : ℤ} (h : ((n : ℝ) - 1 / 2 < y ∧ y < n + 1 / 2) ∨ (Even n ∧ (n : ℝ) - 1 / 2 ≤ y ∧ y ≤ n + 1 / 2)) :
    Ideal.roundHalfEven y = n ∧ Ideal.roundHalfEven (-y) = -n := by
  refine ⟨rhe_eq h, rhe_eq ?_⟩
  push_cast
  rcases h with h | h
  · exact .inl ⟨by linarith [h.2], by linarith [h.1]⟩
  · exact .inr ⟨h.1.neg, by linarith [h.2.2], by linarith [h.2.1]⟩

/-- The spacing around an absolute value. -/
def stepR (a : ℝ) : ℝ := if a < 2 then 1 / 2 else if a < 4 then 1 else 2

/-- The representable magnitudes. -/
def val : Fin 8 → ℝ := ![0, 1 / 2, 1, 3 / 2, 2, 3, 4, 6]

/-- The representable magnitudes, one by one. -/
theorem val_vals : val 0 = 0 ∧ val 1 = 1 / 2 ∧ val 2 = 1 ∧ val 3 = 3 / 2 ∧ val 4 = 2 ∧ val 5 = 3 ∧ val 6 = 4 ∧ val 7 = 6 :=
  ⟨rfl, rfl, rfl, rfl, rfl, rfl, rfl, rfl⟩

/-- Which magnitudes a representable magnitude reaches, by its number. -/
theorem val_facts (m : Fin 8) : 0 ≤ val m ∧ (0 < val m ↔ m ≠ 0) ∧ ((1 / 2 : ℝ) ≤ val m ↔ 1 ≤ m.val) ∧ ((1 : ℝ) ≤ val m ↔ 2 ≤ m.val) ∧ ((3 / 2 : ℝ) ≤ val m ↔ 3 ≤ m.val)
    ∧ ((2 : ℝ) ≤ val m ↔ 4 ≤ m.val) ∧ ((3 : ℝ) ≤ val m ↔ 5 ≤ m.val) ∧ ((4 : ℝ) ≤ val m ↔ 6 ≤ m.val)
    ∧ ((6 : ℝ) ≤ val m ↔ 7 ≤ m.val) :=
  match m with
  | 0 => by rw [val_vals.1]; norm_num
  | 1 => by rw [val_vals.2.1]; norm_num
  | 2 => by rw [val_vals.2.2.1]; norm_num; decide
  | 3 => by rw [val_vals.2.2.2.1]; norm_num; decide
  | 4 => by rw [val_vals.2.2.2.2.1]; norm_num; decide
  | 5 => by rw [val_vals.2.2.2.2.2.1]; norm_num; decide
  | 6 => by rw [val_vals.2.2.2.2.2.2.1]; norm_num; decide
  | 7 => by rw [val_vals.2.2.2.2.2.2.2]; norm_num; decide

/-- The number of the representable magnitude nearest `a`: which thresholds `a` passes, and what rounding gives. -/
structure Near (a : ℝ) (m : Fin 8) : Prop where
  t1 : 1 / 4 < a ↔ 1 ≤ m.val
  t2 : 3 / 4 ≤ a ↔ 2 ≤ m.val
  t3 : 5 / 4 < a ↔ 3 ≤ m.val
  t4 : 7 / 4 ≤ a ↔ 4 ≤ m.val
  t5 : 5 / 2 < a ↔ 5 ≤ m.val
  t6 : 7 / 2 ≤ a ↔ 6 ≤ m.val
  t7 : 5 < a ↔ 7 ≤ m.val
  pos : (Ideal.roundHalfEven (min a 6 / stepR (min a 6)) : ℝ) * stepR (min a 6) = val m
  neg : (Ideal.roundHalfEven (-(min a 6) / stepR (min a 6)) : ℝ) * stepR (min a 6) = -val m

/-- The nearest magnitude from the interval an absolute value lies in. -/
theorem near_of (a s : ℝ) (m : Fin 8) (n : ℤ) (hs : stepR (min a 6) = s) (hv : n * s = val m)
    (h : ((n : ℝ) - 1 / 2 < min a 6 / s ∧ min a 6 / s < n + 1 / 2) ∨ (Even n ∧ (n : ℝ) - 1 / 2 ≤ min a 6 / s ∧ min a 6 / s ≤ n + 1 / 2))
    (t : ((1 / 4 < a ↔ 1 ≤ m.val) ∧ (3 / 4 ≤ a ↔ 2 ≤ m.val) ∧ (5 / 4 < a ↔ 3 ≤ m.val) ∧ (7 / 4 ≤ a ↔ 4 ≤ m.val)
      ∧ (5 / 2 < a ↔ 5 ≤ m.val) ∧ (7 / 2 ≤ a ↔ 6 ≤ m.val) ∧ (5 < a ↔ 7 ≤ m.val))) : Near a m where
  t1 := t.1
  t2 := t.2.1
  t3 := t.2.2.1
  t4 := t.2.2.2.1
  t5 := t.2.2.2.2.1
  t6 := t.2.2.2.2.2.1
  t7 := t.2.2.2.2.2.2
  pos := by rw [hs, (rhe_pm h).1, hv]
  neg := by rw [hs, neg_div, (rhe_pm h).2]; push_cast; rw [neg_mul, hv]

/-- Every nonnegative number has a nearest representable magnitude. -/
theorem exists_near (a : ℝ) (ha : 0 ≤ a) : ∃ m, Near a m := by
  have iff_t {p : Prop} {q : Prop} (hp : p) (hq : q) : p ↔ q := ⟨fun _ => hq, fun _ => hp⟩
  have iff_f {p : Prop} {q : Prop} (hp : ¬ p) (hq : ¬ q) : p ↔ q := ⟨fun h => absurd h hp, fun h => absurd h hq⟩
  have close (s : ℝ) (m : Fin 8) (n : ℤ) (hs : stepR (min a 6) = s) (hv : n * s = val m)
    (h : ((n : ℝ) - 1 / 2 < min a 6 / s ∧ min a 6 / s < n + 1 / 2) ∨ (Even n ∧ (n : ℝ) - 1 / 2 ≤ min a 6 / s ∧ min a 6 / s ≤ n + 1 / 2))
    (t : ((1 / 4 < a ↔ 1 ≤ m.val) ∧ (3 / 4 ≤ a ↔ 2 ≤ m.val) ∧ (5 / 4 < a ↔ 3 ≤ m.val) ∧ (7 / 4 ≤ a ↔ 4 ≤ m.val)
      ∧ (5 / 2 < a ↔ 5 ≤ m.val) ∧ (7 / 2 ≤ a ↔ 6 ≤ m.val) ∧ (5 < a ↔ 7 ≤ m.val))) : ∃ m, Near a m :=
    ⟨m, near_of a s m n hs hv h t⟩
  have hm : a ≤ 6 → min a 6 = a := fun h => min_eq_left h
  have s1 : a < 2 → stepR (min a 6) = 1 / 2 := fun h => by rw [hm (by linarith)]; exact if_pos h
  have s2 : 2 ≤ a → a < 4 → stepR (min a 6) = 1 := fun h h' => by
    rw [hm (by linarith)]; exact (if_neg (not_lt.2 h)).trans (if_pos h')
  have s3 : 4 ≤ a → stepR (min a 6) = 2 := fun h => by
    have h4 : (4 : ℝ) ≤ min a 6 := le_min h (by norm_num)
    exact (if_neg (by linarith)).trans (if_neg (by linarith))
  rcases le_or_gt a (1 / 4) with h1 | h1
  · refine close _ 0 0 (s1 (by linarith)) (by norm_num [val_vals]) (.inr ⟨by decide, ?_, ?_⟩) ?_
    · rw [hm (by linarith)]; push_cast; linarith
    · rw [hm (by linarith)]; push_cast; linarith
    · refine ⟨?_, ?_, ?_, ?_, ?_, ?_, ?_⟩ <;> exact iff_f (by linarith) (by decide)
  rcases lt_or_ge a (3 / 4) with h2 | h2
  · refine close _ 1 1 (s1 (by linarith)) (by norm_num [val_vals]) (.inl ⟨?_, ?_⟩) ?_
    · rw [hm (by linarith)]; push_cast; linarith
    · rw [hm (by linarith)]; push_cast; linarith
    · refine ⟨iff_t (by linarith) (by decide), ?_, ?_, ?_, ?_, ?_, ?_⟩ <;> exact iff_f (by linarith) (by decide)
  rcases le_or_gt a (5 / 4) with h3 | h3
  · refine close _ 2 2 (s1 (by linarith)) (by norm_num [val_vals]) (.inr ⟨by decide, ?_, ?_⟩) ?_
    · rw [hm (by linarith)]; push_cast; linarith
    · rw [hm (by linarith)]; push_cast; linarith
    · refine ⟨iff_t (by linarith) (by decide), iff_t (by linarith) (by decide), ?_, ?_, ?_, ?_, ?_⟩ <;> exact iff_f (by linarith) (by decide)
  rcases lt_or_ge a (7 / 4) with h4 | h4
  · refine close _ 3 3 (s1 (by linarith)) (by norm_num [val_vals]) (.inl ⟨?_, ?_⟩) ?_
    · rw [hm (by linarith)]; push_cast; linarith
    · rw [hm (by linarith)]; push_cast; linarith
    · refine ⟨iff_t (by linarith) (by decide), iff_t (by linarith) (by decide), iff_t (by linarith) (by decide), ?_, ?_, ?_, ?_⟩ <;>
        exact iff_f (by linarith) (by decide)
  rcases le_or_gt a (5 / 2) with h5 | h5
  · have t : ((1 / 4 < a ↔ 1 ≤ (4 : Fin 8).val) ∧ (3 / 4 ≤ a ↔ 2 ≤ (4 : Fin 8).val) ∧ (5 / 4 < a ↔ 3 ≤ (4 : Fin 8).val)
        ∧ (7 / 4 ≤ a ↔ 4 ≤ (4 : Fin 8).val) ∧ (5 / 2 < a ↔ 5 ≤ (4 : Fin 8).val) ∧ (7 / 2 ≤ a ↔ 6 ≤ (4 : Fin 8).val)
        ∧ (5 < a ↔ 7 ≤ (4 : Fin 8).val)) := by
      refine ⟨iff_t (by linarith) (by decide), iff_t (by linarith) (by decide), iff_t (by linarith) (by decide),
        iff_t (by linarith) (by decide), ?_, ?_, ?_⟩ <;> exact iff_f (by linarith) (by decide)
    rcases lt_or_ge a 2 with h6 | h6
    · refine close _ 4 4 (s1 h6) (by norm_num [val_vals]) (.inr ⟨by decide, ?_, ?_⟩) t
      · rw [hm (by linarith)]; push_cast; linarith
      · rw [hm (by linarith)]; push_cast; linarith
    · refine close _ 4 2 (s2 h6 (by linarith)) (by norm_num [val_vals]) (.inr ⟨by decide, ?_, ?_⟩) t
      · rw [hm (by linarith)]; push_cast; linarith
      · rw [hm (by linarith)]; push_cast; linarith
  rcases lt_or_ge a (7 / 2) with h6 | h6
  · refine close _ 5 3 (s2 (by linarith) (by linarith)) (by norm_num [val_vals]) (.inl ⟨?_, ?_⟩) ?_
    · rw [hm (by linarith)]; push_cast; linarith
    · rw [hm (by linarith)]; push_cast; linarith
    · refine ⟨iff_t (by linarith) (by decide), iff_t (by linarith) (by decide), iff_t (by linarith) (by decide),
        iff_t (by linarith) (by decide), iff_t (by linarith) (by decide), ?_, ?_⟩ <;> exact iff_f (by linarith) (by decide)
  rcases le_or_gt a 5 with h7 | h7
  · have t : ((1 / 4 < a ↔ 1 ≤ (6 : Fin 8).val) ∧ (3 / 4 ≤ a ↔ 2 ≤ (6 : Fin 8).val) ∧ (5 / 4 < a ↔ 3 ≤ (6 : Fin 8).val)
        ∧ (7 / 4 ≤ a ↔ 4 ≤ (6 : Fin 8).val) ∧ (5 / 2 < a ↔ 5 ≤ (6 : Fin 8).val) ∧ (7 / 2 ≤ a ↔ 6 ≤ (6 : Fin 8).val)
        ∧ (5 < a ↔ 7 ≤ (6 : Fin 8).val)) := by
      refine ⟨iff_t (by linarith) (by decide), iff_t (by linarith) (by decide), iff_t (by linarith) (by decide),
        iff_t (by linarith) (by decide), iff_t (by linarith) (by decide), iff_t (by linarith) (by decide), ?_⟩
      exact iff_f (by linarith) (by decide)
    rcases lt_or_ge a 4 with h8 | h8
    · refine close _ 6 4 (s2 (by linarith) h8) (by norm_num [val_vals]) (.inr ⟨by decide, ?_, ?_⟩) t
      · rw [hm (by linarith)]; push_cast; linarith
      · rw [hm (by linarith)]; push_cast; linarith
    · refine close _ 6 2 (s3 h8) (by norm_num [val_vals]) (.inr ⟨by decide, ?_, ?_⟩) t
      · rw [hm (by linarith)]; push_cast; linarith
      · rw [hm (by linarith)]; push_cast; linarith
  · have h5' : 5 < min a 6 := lt_min h7 (by norm_num)
    have h6' : min a 6 ≤ 6 := min_le_right _ _
    refine close _ 7 3 (s3 (by linarith)) (by norm_num [val_vals]) (.inl ⟨?_, ?_⟩) ?_
    · push_cast; linarith
    · push_cast; linarith
    · refine ⟨?_, ?_, ?_, ?_, ?_, ?_, ?_⟩ <;> exact iff_t (by linarith) (by decide)

/-! ## Both codes from the sign and the number of the magnitude -/

/-- The code by thresholds from the sign and the number of the magnitude. -/
def ofT (s : Bool) (m : Fin 8) : BitVec 8 :=
  (if s then BitVec.ofNat 32 m.val - 8#32 else BitVec.ofNat 32 m.val).setWidth 8

/-- The code of the rounded quotient from the sign and the number of the magnitude. -/
def ofS (s : Bool) (m : Fin 8) : BitVec 8 := (if s && decide (m ≠ 0) then 8#8 else 0#8) + BitVec.ofNat 8 m.val

/-- A pair of codes by thresholds, the signs of zero magnitudes cleared, is the pair of codes of the rounded quotients. -/
theorem clean_ofT : ∀ (s s' : Bool) (m m' : Fin 8), cleanT (joinT (ofT s m) (ofT s' m')) = ofS s m ||| (ofS s' m' <<< 4) := by
  decide +kernel

/-- A comparison's bit, the comparison decided by another statement. -/
theorem bit_iff {p q : Prop} [Decidable p] [Decidable q] (h : p ↔ q) : BitVec.ofBool (decide p) = BitVec.ofBool (decide q) := by
  rw [decide_eq_decide.2 h]

/-- The number of thresholds passed, all seven counted. -/
theorem count_T : ∀ m : Fin 8, 0#32 + tickT (BitVec.ofBool (decide (1 ≤ m.val))) + tickT (BitVec.ofBool (decide (2 ≤ m.val)))
    + tickT (BitVec.ofBool (decide (3 ≤ m.val))) + tickT (BitVec.ofBool (decide (4 ≤ m.val)))
    + tickT (BitVec.ofBool (decide (5 ≤ m.val))) + tickT (BitVec.ofBool (decide (6 ≤ m.val)))
    + tickT (BitVec.ofBool (decide (7 ≤ m.val))) = BitVec.ofNat 32 m.val := by decide +kernel

/-- The number of representable magnitudes reached, all seven counted. -/
theorem count_S : ∀ m : Fin 8, 0#8 + bit8 (BitVec.ofBool (decide (1 ≤ m.val))) + bit8 (BitVec.ofBool (decide (2 ≤ m.val)))
    + bit8 (BitVec.ofBool (decide (3 ≤ m.val))) + bit8 (BitVec.ofBool (decide (4 ≤ m.val)))
    + bit8 (BitVec.ofBool (decide (5 ≤ m.val))) + bit8 (BitVec.ofBool (decide (6 ≤ m.val)))
    + bit8 (BitVec.ofBool (decide (7 ≤ m.val))) = BitVec.ofNat 8 m.val := by decide +kernel

/-- The thresholds an extended real passes, from a number's nearest magnitude. -/
theorem magT_eq (A : EReal) (m : Fin 8)
    (t : ((((1 / 4 : ℝ) : EReal) < A ↔ 1 ≤ m.val) ∧ (((3 / 4 : ℝ) : EReal) ≤ A ↔ 2 ≤ m.val) ∧ (((5 / 4 : ℝ) : EReal) < A ↔ 3 ≤ m.val)
      ∧ (((7 / 4 : ℝ) : EReal) ≤ A ↔ 4 ≤ m.val) ∧ (((5 / 2 : ℝ) : EReal) < A ↔ 5 ≤ m.val) ∧ (((7 / 2 : ℝ) : EReal) ≤ A ↔ 6 ≤ m.val)
      ∧ (((5 : ℝ) : EReal) < A ↔ 7 ≤ m.val))) : magT A = BitVec.ofNat 32 m.val := by
  obtain ⟨c0, c1, c2, c3, c4, c5, c6, c7, c8, c9, c10, c11, c12, c13, c14, c15⟩ := k32_vals
  obtain ⟨t1, t2, t3, t4, t5, t6, t7⟩ := t
  rw [← count_T m]
  unfold magT
  rw [c1, c3, c5, c7, c9, c11, c13]
  show 0#32 + tickT (BitVec.ofBool (decide _)) + tickT (BitVec.ofBool (decide _)) + tickT (BitVec.ofBool (decide _))
    + tickT (BitVec.ofBool (decide _)) + tickT (BitVec.ofBool (decide _)) + tickT (BitVec.ofBool (decide _))
    + tickT (BitVec.ofBool (decide _)) = _
  rw [bit_iff t1, bit_iff t2, bit_iff t3, bit_iff t4, bit_iff t5, bit_iff t6, bit_iff t7]

/-- The absolute value of a real. -/
theorem ab_coe (x : ℝ) : ab (x : EReal) = ((|x| : ℝ) : EReal) := by
  show max (x : EReal) (-(x : EReal)) = _
  rw [← EReal.coe_neg, abs_eq_max_neg]
  exact (EReal.coe_strictMono.monotone.map_max).symm

/-- The representable value nearest a real in the range, from rounding at the spacing around it. -/
theorem nearS_coe (u : ℝ) : nearS (u : EReal) = (((Ideal.roundHalfEven (u / stepR |u|) : ℝ) * stepR |u| : ℝ) : EReal) := by
  obtain ⟨c0, c1, c2, c3, c4, c5, c6, c7, c8, c9, c10, c11, c12, c13, c14, c15⟩ := k32_vals
  have hs : stepS (u : EReal) = ((stepR |u| : ℝ) : EReal) := by
    unfold stepS
    rw [ab_coe, c2, c4, c8, c12]
    show Scalar.select (BitVec.ofBool (decide (((|u| : ℝ) : EReal) < ((2 : ℝ) : EReal)))) _
      (Scalar.select (BitVec.ofBool (decide (((|u| : ℝ) : EReal) < ((4 : ℝ) : EReal)))) _ _) = _
    unfold stepR Scalar.select
    by_cases h2 : |u| < 2
    · simp [EReal.coe_lt_coe_iff, h2]
    · by_cases h4 : |u| < 4
      · simp [EReal.coe_lt_coe_iff, h2, h4]
      · simp [EReal.coe_lt_coe_iff, h2, h4]
  have hp : stepR |u| ≠ 0 := by
    unfold stepR; split
    · norm_num
    · split <;> norm_num
  unfold nearS
  rw [hs]
  show Ideal.liftRound Ideal.roundHalfEven (Ideal.div (u : EReal) ((stepR |u| : ℝ) : EReal)) * ((stepR |u| : ℝ) : EReal) = _
  rw [Ideal.div_coe hp, ← EReal.coe_mul, Ideal.liftRound_coe, ← EReal.coe_mul, mul_one_div]

/-- The code of a representable value, from its sign and its magnitude's number. -/
theorem codeOf_val (s : Bool) (m : Fin 8) : codeOf (((if s then -val m else val m : ℝ)) : EReal) = ofS s m := by
  obtain ⟨c0, c1, c2, c3, c4, c5, c6, c7, c8, c9, c10, c11, c12, c13, c14, c15⟩ := k32_vals
  have hv : 0 ≤ val m := (val_facts m).1
  have ha : ab (((if s then -val m else val m : ℝ)) : EReal) = ((val m : ℝ) : EReal) := by
    rw [ab_coe]
    cases s
    · simp [abs_of_nonneg hv]
    · simp [abs_of_nonneg hv]
  have hl : (((if s then -val m else val m : ℝ)) < 0) ↔ (s && decide (m ≠ 0)) = true := by
    cases s
    · simpa using hv
    · simpa using (val_facts m).2.1
  have hm : magS ((val m : ℝ) : EReal) = BitVec.ofNat 8 m.val := by
    rw [← count_S m]
    unfold magS
    rw [c2, c4, c6, c8, c10, c12, c14]
    show 0#8 + bit8 (BitVec.ofBool (decide _)) + bit8 (BitVec.ofBool (decide _)) + bit8 (BitVec.ofBool (decide _))
      + bit8 (BitVec.ofBool (decide _)) + bit8 (BitVec.ofBool (decide _)) + bit8 (BitVec.ofBool (decide _))
      + bit8 (BitVec.ofBool (decide _)) = _
    obtain ⟨_, _, t⟩ := val_facts m
    obtain ⟨t1, t2, t3, t4, t5, t6, t7⟩ := t
    rw [bit_iff (EReal.coe_le_coe_iff.trans t1), bit_iff (EReal.coe_le_coe_iff.trans t2), bit_iff (EReal.coe_le_coe_iff.trans t3),
      bit_iff (EReal.coe_le_coe_iff.trans t4), bit_iff (EReal.coe_le_coe_iff.trans t5), bit_iff (EReal.coe_le_coe_iff.trans t6),
      bit_iff (EReal.coe_le_coe_iff.trans t7)]
  unfold codeOf
  rw [ha, hm, c0]
  show Scalar.select (BitVec.ofBool (decide (_ < _))) 8#8 0#8 + _ = _
  rw [bit_iff (EReal.coe_lt_coe_iff.trans hl)]
  unfold ofS Scalar.select
  cases (s && decide (m ≠ 0)) <;> simp

/-- Every quotient has a sign and a nearest magnitude, and both codes are given by them. -/
theorem code_pair (v : EReal) : ∃ (s : Bool) (m : Fin 8), codeT v = ofT s m ∧ codeS v = ofS s m := by
  obtain ⟨c0, c1, c2, c3, c4, c5, c6, c7, c8, c9, c10, c11, c12, c13, c14, c15⟩ := k32_vals
  -- a quotient's absolute value against a real that passes the same thresholds
  have key (s : Bool) (m : Fin 8) (a : ℝ) (h : Near a m) (hs : v < 0 ↔ s = true)
      (hT : magT (ab v) = BitVec.ofNat 32 m.val)
      (hc : clipS v = (((if s then -(min a 6) else min a 6 : ℝ)) : EReal)) (ha : 0 ≤ a) :
      ∃ (s : Bool) (m : Fin 8), codeT v = ofT s m ∧ codeS v = ofS s m := by
    refine ⟨s, m, ?_, ?_⟩
    · unfold codeT
      rw [hT, c0]
      show BitVec.setWidth 8 (Scalar.select (BitVec.ofBool (decide (v < ((0 : ℝ) : EReal)))) _ _) = _
      rw [bit_iff (show v < ((0 : ℝ) : EReal) ↔ s = true by rw [EReal.coe_zero]; exact hs)]
      unfold ofT Scalar.select
      cases s <;> simp
    · unfold codeS
      have h6 : 0 ≤ min a 6 := le_min ha (by norm_num)
      rw [hc, nearS_coe, ← codeOf_val]
      congr 2
      cases s
      · simp only [Bool.false_eq_true, if_false]
        rw [abs_of_nonneg h6]; exact h.pos
      · simp only [if_true]
        rw [abs_neg, abs_of_nonneg h6]; exact h.neg
  have clip (x : ℝ) : clipS (x : EReal) = ((min 6 (max (-6) x) : ℝ) : EReal) := by
    unfold clipS
    rw [c14, c15]
    show min ((6 : ℝ) : EReal) (max ((-6 : ℝ) : EReal) (x : EReal)) = _
    rw [EReal.coe_strictMono.monotone.map_min, EReal.coe_strictMono.monotone.map_max]
  induction v using EReal.rec with
  | bot =>
    obtain ⟨m, hm⟩ := exists_near 7 (by norm_num)
    refine key true m 7 hm (by simp) ?_ ?_ (by norm_num)
    · have : ab (⊥ : EReal) = ⊤ := by show max (⊥ : EReal) (-⊥) = ⊤; simp
      rw [this]
      have tt : ∀ r : ℝ, ((r : EReal) < ⊤) := fun r => EReal.coe_lt_top r
      have h7 := hm.t7.1 (by norm_num)
      exact magT_eq _ m ⟨iff_of_true (tt _) (by omega), iff_of_true (tt _).le (by omega), iff_of_true (tt _) (by omega),
        iff_of_true (tt _).le (by omega), iff_of_true (tt _) (by omega), iff_of_true (tt _).le (by omega), iff_of_true (tt _) (by omega)⟩
    · unfold clipS
      rw [c14, c15]
      show min ((6 : ℝ) : EReal) (max ((-6 : ℝ) : EReal) ⊥) = _
      rw [max_eq_left bot_le, min_eq_right (EReal.coe_le_coe_iff.2 (by norm_num))]
      norm_num
  | top =>
    obtain ⟨m, hm⟩ := exists_near 7 (by norm_num)
    refine key false m 7 hm (by simp) ?_ ?_ (by norm_num)
    · have : ab (⊤ : EReal) = ⊤ := by show max (⊤ : EReal) (-⊤) = ⊤; simp
      rw [this]
      have tt : ∀ r : ℝ, ((r : EReal) < ⊤) := fun r => EReal.coe_lt_top r
      have h7 := hm.t7.1 (by norm_num)
      exact magT_eq _ m ⟨iff_of_true (tt _) (by omega), iff_of_true (tt _).le (by omega), iff_of_true (tt _) (by omega),
        iff_of_true (tt _).le (by omega), iff_of_true (tt _) (by omega), iff_of_true (tt _).le (by omega), iff_of_true (tt _) (by omega)⟩
    · unfold clipS
      rw [c14, c15]
      show min ((6 : ℝ) : EReal) (max ((-6 : ℝ) : EReal) ⊤) = _
      rw [max_eq_right le_top, min_eq_left le_top]
      norm_num
  | coe x =>
    obtain ⟨m, hm⟩ := exists_near |x| (abs_nonneg x)
    have hT : magT (ab (x : EReal)) = BitVec.ofNat 32 m.val := by
      rw [ab_coe]
      exact magT_eq _ m ⟨EReal.coe_lt_coe_iff.trans hm.t1, EReal.coe_le_coe_iff.trans hm.t2, EReal.coe_lt_coe_iff.trans hm.t3,
        EReal.coe_le_coe_iff.trans hm.t4, EReal.coe_lt_coe_iff.trans hm.t5, EReal.coe_le_coe_iff.trans hm.t6,
        EReal.coe_lt_coe_iff.trans hm.t7⟩
    by_cases hx : x < 0
    · refine key true m |x| hm (by simpa using hx) hT ?_ (abs_nonneg x)
      rw [clip, abs_of_neg hx]
      congr 1
      simp only [if_true]
      rw [max_comm, min_eq_right (max_le (by linarith) (by norm_num)), ← max_neg_neg, neg_neg]
    · refine key false m |x| hm (by simpa using hx) hT ?_ (abs_nonneg x)
      rw [clip, abs_of_nonneg (not_lt.1 hx)]
      congr 1
      simp only [Bool.false_eq_true, if_false]
      rw [max_eq_right (by linarith [not_lt.1 hx]), min_comm]

/-- A pair of codes by thresholds, the signs of zero magnitudes cleared, is the byte of the rounded quotients' codes. -/
theorem clean_join (v v' : EReal) : cleanT (joinT (codeT v) (codeT v')) = byteS v v' := by
  obtain ⟨s, m, h, h'⟩ := code_pair v
  obtain ⟨t, n, k, k'⟩ := code_pair v'
  unfold byteS
  rw [h, h', k, k', clean_ofT]

end Cert.Spec

end
-- ==== Proof.Codes.lean ====
/- The packed codes a block stores, at the extended reals: each byte holds the codes of two neighbouring columns' quotients. -/
module

public import proofs.«01_k».proof.Proof.Scales
public import proofs.«01_k».proof.Proof.Scalar
public import Idealize.ShloMosaic.Lib.MatmulPlain
public import Idealize.ShloMosaic.Lib.BitcastFour

@[expose] public section

set_option maxRecDepth 16384

noncomputable section

namespace Cert.KernelIdeal.Body

open Cert.KernelIdeal Cert.KernelIdeal.Gen Idealize.ShloMosaic Idealize.SL.Sem Cert.Spec
open Idealize.ShloMosaic.ValueIdx (ix1 ix2 ix3)

/-! ## Even columns first -/

/-- The columns' order: the even ones, then the odd ones. -/
abbrev colOf (c : Nat) : Nat := 2 * (c % 128) + c / 128

/-- The matrix that moves the even columns first: one where the row is the column's number, zero elsewhere. -/
def Moves (x1 : Vec Ideal S256x256 .bf16) : Prop :=
  ∀ r c : Fin 256, (x1 (ix2 r c) : EReal) = if r.val = colOf c.val then 1 else 0

/-- The product with that matrix is the block's columns, the even ones first. -/
theorem evenOdd_apply (x0 : Vec Ideal S256x2048 .bf16) (x1 : Vec Ideal S256x256 .bf16) (hw : Moves x1) (t : Nat) (ht : t < 8)
    (p c : Fin 256) (d : Fin 2048) (hd : d.val = 256 * t + colOf c.val) :
    (evenOdd x0 x1 t (ix2 p c) : EReal) = rowOf x0 p d := by
  have hc := c.isLt
  refine (Ideal.matmul_plain_apply (M := 256) (K := 256) (N := 256) (φ₁ := .bf16) (φ₂ := .bf16) none _ _ _ p c).trans ?_
  have h0 : ((constant S256x256 .f32 0x00000000#32 : FVec Ideal S256x256 .f32) (ix2 p c) : EReal) = 0 := Ideal.ofBits_zero_f32
  refine (congrArg (· + _) h0).trans ((zero_add _).trans ?_)
  have hl : ∀ k : Fin 256, ((shapeCast S256x256 (View.ld x0 (Rect.unit (s := S256x2048) ![0, 256 * (t % 8)] S256x256.size (inb_strip t)))
      shapeCasts_S256x256_S256x256 : FVec Ideal S256x256 .bf16) (ix2 p k) : EReal) = x0 (ix2 p ⟨256 * t + k.val, by omega⟩) := fun k => by
    refine (congrFun (shapeCast_self _ _) (ix2 p k)).trans (congrArg x0 (funext fun a => Fin.ext ?_))
    match a with
    | ⟨0, _⟩ => show 0 + 1 * p.val = p.val; omega
    | ⟨1, _⟩ => show 256 * (t % 8) + 1 * k.val = 256 * t + k.val; omega
  have hr : ∀ k : Fin 256, ((shapeCast S256x256 (View.ld x1 (Rect.unit (s := S256x256) ![0, 0] S256x256.size inb_S256x256_S256x256_0_0))
      shapeCasts_S256x256_S256x256 : FVec Ideal S256x256 .bf16) (ix2 k c) : EReal) = if k.val = colOf c.val then 1 else 0 := fun k => by
    rw [← hw k c]
    refine (congrFun (shapeCast_self _ _) (ix2 k c)).trans (congrArg x1 (funext fun a => Fin.ext ?_))
    match a with
    | ⟨0, _⟩ => show 0 + 1 * k.val = k.val; omega
    | ⟨1, _⟩ => show 0 + 1 * c.val = c.val; omega
  refine (Finset.sum_congr rfl fun k _ => congrArg₂ (fun a b : EReal => a * b) (hl k) (hr k)).trans ?_
  refine (Finset.sum_eq_single (⟨colOf c.val, by show 2 * (c.val % 128) + c.val / 128 < 256; omega⟩ : Fin 256)
    (fun k _ hk => ?_) (fun h => absurd (Finset.mem_univ _) h)).trans ?_
  · show _ * (if k.val = colOf c.val then (1 : EReal) else 0) = 0
    rw [if_neg fun h => hk (Fin.ext h), mul_zero]
  · show _ * (if colOf c.val = colOf c.val then (1 : EReal) else 0) = _
    rw [if_pos rfl, mul_one]
    exact congrArg (fun z => x0 (ix2 p z)) (Fin.ext hd.symm)

/-! ## The quotients -/

/-- The lane number a lane names for its reciprocal, as a word: for the tile `t` and the lane `l`, the lane that holds block `16 t + l / 8`. -/
theorem invIdx_word : ∀ (t : Fin 8) (l : Fin 128),
    (IntOp.addi (IntOp.muli 16#32 (IntOp.andi (IntOp.shrsi .vector (BitVec.ofNat 32 l.val) 3#32) 7#32))
      (IntOp.addi (BitVec.ofNat 32 (2 * t.val)) (IntOp.shrsi .vector (IntOp.shrsi .vector (BitVec.ofNat 32 l.val) 3#32) 3#32))).toNat
      = (laneOf ⟨16 * t.val + l.val / 8, by omega⟩).val := by decide +kernel

/-- The lane a lane's reciprocal comes from holds the lane's block. -/
theorem invIdx_apply (t : Nat) (ht : t < 8) (i : Fin 8) (l : Fin 128) :
    (invIdx t (ix2 i l)).toNat = (laneOf ⟨16 * t + l.val / 8, by omega⟩).val := by
  have e : invIdx t (ix2 i l) = IntOp.addi (IntOp.muli 16#32 (IntOp.andi (IntOp.shrsi .vector (lane8 (ix2 i l)) 3#32) 7#32))
      (IntOp.addi (BitVec.ofNat 32 (2 * t)) (IntOp.shrsi .vector (IntOp.shrsi .vector (lane8 (ix2 i l)) 3#32) 3#32)) := rfl
  rw [e, lane8_apply]
  exact invIdx_word ⟨t, ht⟩ l

/-- The quotient of a column by its block's scale. -/
def quotS (X : Fin 2048 → EReal) (c : Fin 2048) : EReal :=
  dv (X c) (effS (bmax X ⟨c.val / 16, by omega⟩) (rmax X))

/-- The quotients of eight rows. -/
theorem quot_apply (x0 : Vec Ideal S256x2048 .bf16) (x1 : Vec Ideal S256x256 .bf16) (hw : Moves x1) (t : Nat) (ht : t < 8) (p : Nat)
    (hp : p < 2) (n : Nat) (hn : n < 32) (i : Fin 8) (l : Fin 128) (d : Fin 2048) (hd : d.val = 256 * t + 2 * l.val + p) :
    (quot x0 x1 t p n (ix2 i l) : EReal) = quotS (rowOf x0 (bandRow n hn i)) d := by
  have hl := l.isLt
  have hi := i.isLt
  have e : (quot x0 x1 t p n (ix2 i l) : EReal) = FloatOps.mulf (F := Ideal) (φ := .f32)
    (extractStridedSlice S8x128 ![8 * (n % 32), 128 * (p % 2)] (evenOdd x0 x1 t) (slices_band n p) (ix2 i l))
    (dynamicGather 1 (inv x0 n) (wrap8 (invIdx t)) (ix2 i l)) := rfl
  have e1 : (extractStridedSlice S8x128 ![8 * (n % 32), 128 * (p % 2)] (evenOdd x0 x1 t) (slices_band n p) (ix2 i l) : EReal)
      = evenOdd x0 x1 t (ix2 (bandRow n hn i) ⟨128 * p + l.val, by omega⟩) := by
    refine congrArg (evenOdd x0 x1 t) (funext fun a => Fin.ext ?_)
    match a with
    | ⟨0, _⟩ => show 8 * (n % 32) + i.val = 8 * n + i.val; omega
    | ⟨1, _⟩ => show 128 * (p % 2) + l.val = 128 * p + l.val; omega
  rw [e, e1, evenOdd_apply x0 x1 hw t ht _ _ d
    (by rw [hd]; show 256 * t + 2 * l.val + p = 256 * t + (2 * ((128 * p + l.val) % 128) + (128 * p + l.val) / 128); omega),
    gather8 _ (invIdx t) i l (laneOf ⟨16 * t + l.val / 8, by omega⟩) (invIdx_apply t ht i l), inv_apply x0 n hn,
    show blkOf (laneOf ⟨16 * t + l.val / 8, by omega⟩) = ⟨d.val / 16, by omega⟩ from
      (blkOf_surj _).trans (Fin.ext (by show 16 * t + l.val / 8 = d.val / 16; omega)),
    mul_inv_eff _ _ (effS_ne_zero _ _)]
  rfl

/-- The quotients of a half of a tile's columns. -/
theorem cat_quot (x0 : Vec Ideal S256x2048 .bf16) (x1 : Vec Ideal S256x256 .bf16) (hw : Moves x1) (t : Nat) (ht : t < 8) (q : Nat)
    (hq : q < 2) (p : Fin 256) (l : Fin 128) (d : Fin 2048) (hd : d.val = 256 * t + 2 * l.val + q) :
    (cat32 (quot x0 x1 t q) (ix2 p l) : EReal) = quotS (rowOf x0 p) d := by
  have hp := p.isLt
  rw [cat32_apply, quot_apply x0 x1 hw t ht q hq _ (by omega) _ _ d hd]
  have hr : bandRow (p.val / 8) (by omega) ⟨p.val % 8, Nat.mod_lt _ (by decide)⟩ = p := Fin.ext (Nat.div_add_mod _ 8)
  rw [hr]

/-! ## Four bytes at a time -/

/-- The sum of two words whose bytes do not carry, a byte at a time. -/
theorem byte_add (n k : Nat) (hk : k < 4) (h : ∀ j < 4, n / 256 ^ j % 256 ≤ 119) (hn : n < 2 ^ 32) :
    (n + 2004318071) % 2 ^ 32 / 256 ^ k % 256 = (n / 256 ^ k % 256 + 119) % 256 := by
  have h0 := h 0 (by omega)
  have h1 := h 1 (by omega)
  have h2 := h 2 (by omega)
  have h3 := h 3 (by omega)
  interval_cases k <;> norm_num at h0 h1 h2 h3 hn ⊢ <;> omega

/-- Byte `k` of a word. -/
abbrev byteAt (w : BitVec 32) (k : Nat) : BitVec 8 := w.extractLsb' (8 * k) 8

/-- Byte `k` of a word as a number. -/
theorem byteAt_toNat (w : BitVec 32) (k : Nat) : (byteAt w k).toNat = w.toNat / 256 ^ k % 256 := by
  rw [BitVec.extractLsb'_toNat, Nat.shiftRight_eq_div_pow, Nat.pow_mul]

/-- Every byte of the mask is `0x77`. -/
theorem byteAt_mask : ∀ k : Fin 4, byteAt 2004318071#32 k.val = 0x77#8 := by decide

/-- Clearing the signs of zero magnitudes in a word clears them in each byte. -/
theorem clean_word (w : BitVec 32) (k : Nat) (hk : k < 4) :
    byteAt (w &&& (((w &&& 2004318071#32) + 2004318071#32) ||| 2004318071#32)) k = cleanT (byteAt w k) := by
  have hm := byteAt_mask ⟨k, hk⟩
  have hand : ∀ (a b : BitVec 32) (k : Nat), byteAt (a &&& b) k = byteAt a k &&& byteAt b k := fun a b k => BitVec.extractLsb'_and
  have hor : ∀ (a b : BitVec 32) (k : Nat), byteAt (a ||| b) k = byteAt a k ||| byteAt b k := fun a b k => BitVec.extractLsb'_or
  have hs : byteAt ((w &&& 2004318071#32) + 2004318071#32) k = (byteAt w k &&& 0x77#8) + 0x77#8 := by
    apply BitVec.eq_of_toNat_eq
    rw [byteAt_toNat, BitVec.toNat_add, BitVec.toNat_add, ← hm, ← hand, byteAt_toNat, hm]
    refine byte_add _ k hk (fun j hj => ?_) (BitVec.isLt _)
    rw [← byteAt_toNat, hand, show byteAt 2004318071#32 j = 0x77#8 from byteAt_mask ⟨j, hj⟩, BitVec.toNat_and]
    exact Nat.and_le_right
  rw [hand, hor, hs, hm]
  rfl

/-- Clearing the signs of zero magnitudes four bytes at a time is clearing each byte's. -/
theorem clean_apply (b : IVec S256x128 8) (p : Fin 256) (l : Fin 128) : clean b (ix2 p l) = cleanT (b (ix2 p l)) := by
  have hp := p.isLt
  have hword : byteAt (bitcast S64x128 32 b bitcasts_S256x128_w8_S64x128_w32 (ix2 ⟨p.val / 4, by omega⟩ l)) (p.val % 4)
      = b (ix2 p l) := by
    apply BitVec.eq_of_getLsbD_eq
    intro q hq
    rw [BitVec.getLsbD_extractLsb']
    rw [bitcast_8_32_getLsbD_ix2 b bitcasts_S256x128_w8_S64x128_w32 ⟨p.val / 4, by omega⟩ l (8 * (p.val % 4) + q) (by omega) p
      (by show p.val = 4 * (p.val / 4) + (8 * (p.val % 4) + q) / 8; omega)]
    rw [show (8 * (p.val % 4) + q) % 8 = q by omega]
    simp [hq]
  rw [← hword, ← clean_word _ _ (Nat.mod_lt _ (by decide))]
  apply BitVec.eq_of_getLsbD_eq
  intro q hq
  unfold clean
  rw [bitcast_getLsbD _ bitcasts_S64x128_w32_S256x128_w8 (ix2 p l) q hq (by decide), BitVec.getLsbD_extractLsb']
  have hrow : S256x128.row (ix2 p l) = p.val := rfl
  have hidx : ∀ (P : Nat) (hP : ∀ a : Fin S64x128.rank, a.val + 2 = S64x128.rank → P < S64x128.size a), P = p.val / 4 →
      bitcasts_S64x128_w32_S256x128_w8.srcIdx (ix2 p l) P hP = ix2 ⟨p.val / 4, by omega⟩ l := fun P hP e => by
    funext c
    match c with
    | ⟨0, _⟩ => exact Fin.ext ((Shape.Bitcasts.srcIdx_row _ _ _ _ ⟨0, Nat.zero_lt_two⟩ rfl).trans e)
    | ⟨1, _⟩ => exact Fin.ext (Shape.Bitcasts.srcIdx_other _ _ _ _ ⟨1, Nat.one_lt_two⟩ (by show ¬ 1 + 2 = 2; omega))
  rw [hidx _ _ (by rw [hrow]; omega), hrow, show (p.val * 8 + q) % 32 = 8 * (p.val % 4) + q by omega]
  simp only [hq, decide_true, Bool.true_and]
  rfl

/-! ## The bytes -/

/-- The code of a quotient at an index. -/
theorem code_apply (v : FVec Ideal S256x128 .f32) (j : S256x128.Idx) : code v j = codeT (v j) := rfl

/-- Two codes to a byte, at an index. -/
theorem join_apply (e o : IVec S256x128 8) (j : S256x128.Idx) : join e o j = joinT (e j) (o j) := rfl

/-- The bytes a tile of the block stores are the codes of two neighbouring columns' quotients. -/
theorem packed_apply (x0 : Vec Ideal S256x2048 .bf16) (x1 : Vec Ideal S256x256 .bf16) (hw : Moves x1) (t : Nat) (ht : t < 8)
    (p : Fin 256) (l : Fin 128) :
    packed x0 x1 t (ix2 p l)
      = byteS (quotS (rowOf x0 p) ⟨256 * t + 2 * l.val, by omega⟩) (quotS (rowOf x0 p) ⟨256 * t + 2 * l.val + 1, by omega⟩) := by
  unfold packed
  rw [clean_apply, join_apply, code_apply, code_apply, cat_quot x0 x1 hw t ht 0 (by decide) p l ⟨256 * t + 2 * l.val, by omega⟩ rfl,
    cat_quot x0 x1 hw t ht 1 (by decide) p l ⟨256 * t + 2 * l.val + 1, by omega⟩ rfl, clean_join]

end Cert.KernelIdeal.Body

end
-- ==== Proof.RefRows.lean ====
/- The reference's operations over any number of rows, at the extended reals, an entry at a time. -/
module

public import proofs.«01_k».proof.Proof.Codes
public import Idealize.ShloMosaic.Lib.Pipeline.Value

@[expose] public section

set_option maxRecDepth 16384

noncomputable section

namespace Cert.Rows

open Idealize.ShloMosaic Idealize.SL.Sem Cert.Spec
open Idealize.ShloMosaic.ValueIdx (ix1 ix2 ix3)
open Cert.KernelIdeal.Body (quotS)

/-- The least constant is the least extended real. -/
theorem ofBits_bot : (FloatOps.ofBits (F := Ideal) .f32 0xFF800000#32 : EReal) = ⊥ := by
  show Ideal.ofBits .f32 0xFF800000#32 = ⊥
  simp [Ideal.ofBits, Ideal.ieee]

/-- A maximum folded from the least constant is a supremum. -/
theorem fold_sup {k : Nat} (f : Fin k → EReal) :
    (Finset.univ : Finset (Fin k)).fold max (FloatOps.ofBits (F := Ideal) .f32 0xFF800000#32 : EReal) f = Finset.univ.sup f := by
  rw [ofBits_bot]
  refine eq_of_forall_ge_iff fun M => ?_
  rw [Finset.fold_max_le, Finset.sup_le_iff]
  exact ⟨fun h => h.2, fun h => ⟨bot_le, h⟩⟩

/-! ## The shapes -/

/-- `n` rows of 2048 columns. -/
abbrev Flat (n : Nat) : Shape := ⟨2, ![n, 2048]⟩
/-- `n` rows of 128 blocks of sixteen columns. -/
abbrev Blocked (n : Nat) : Shape := ⟨3, ![n, 128, 16]⟩
/-- One value for each block of each row. -/
abbrev Blocks (n : Nat) : Shape := ⟨2, ![n, 128]⟩
/-- One value for each block of each row, with a last axis of one. -/
abbrev Blocks1 (n : Nat) : Shape := ⟨3, ![n, 128, 1]⟩
/-- One value for each row. -/
abbrev Rows (n : Nat) : Shape := ⟨1, ![n]⟩
/-- One value for each row, with a last axis of one. -/
abbrev Column (n : Nat) : Shape := ⟨2, ![n, 1]⟩
/-- `n` rows of 1024 pairs. -/
abbrev Pairs (n : Nat) : Shape := ⟨3, ![n, 1024, 2]⟩
/-- One member of each pair, with a last axis of one. -/
abbrev Singles (n : Nat) : Shape := ⟨3, ![n, 1024, 1]⟩
/-- `n` rows of 1024 bytes. -/
abbrev Bytes (n : Nat) : Shape := ⟨2, ![n, 1024]⟩

variable {n : Nat}

/-- Row `R` of an array. -/
abbrev row (x : FVec Ideal (Flat n) .bf16) (R : Fin n) : Fin 2048 → EReal := fun c => x (ix2 R c)

/-! ## The blocks and their largest absolute values -/

/-- The array in blocks of sixteen columns. -/
def blocked (x : FVec Ideal (Flat n) .bf16) (h : (Flat n).ShapeCasts (Flat n)) (hb : FTy.bf16.bits < FTy.f32.bits)
    (h' : (Flat n).ShapeCasts (Blocked n)) : FVec Ideal (Blocked n) .f32 :=
  shapeCast (Blocked n) (extf .f32 (shapeCast (Flat n) x h) hb) h'

/-- The entry `s` of block `b` is the entry of column `16 b + s`. -/
theorem blocked_apply (x : FVec Ideal (Flat n) .bf16) (h : (Flat n).ShapeCasts (Flat n)) (hb : FTy.bf16.bits < FTy.f32.bits)
    (h' : (Flat n).ShapeCasts (Blocked n)) (R : Fin n) (b : Fin 128) (s : Fin 16) :
    (blocked x h hb h' (ix3 R b s) : EReal) = row x R ⟨16 * b.val + s.val, by omega⟩ := by
  have hb := b.isLt
  have hs := s.isLt
  refine (shapeCast_apply _ _ (ix3 R b s) (ix2 R ⟨16 * b.val + s.val, by omega⟩) (by
    rw [Shape.rowMajor_val_two, Shape.rowMajor_val_three]
    show R.val * 2048 + (16 * b.val + s.val) = (R.val * 128 + b.val) * 16 + s.val; omega)).trans ?_
  exact congrFun (shapeCast_self x h) _

/-- The blocks' largest absolute values. -/
theorem blockMax_apply (v : FVec Ideal (Blocked n) .f32) (h : (Blocked n).Reduces [2] (Blocks n)) (hφ : FKind.Formats .f32)
    (hacc : 0xFF800000#32 = FKind.maximumf.neutral .f32 hφ) (R : Fin n) (b : Fin 128) :
    (multiReduction .maximumf [2] (Blocks n) (absf v) 0xFF800000#32 h hφ hacc (ix2 R b) : EReal)
      = Finset.univ.sup fun s : Fin 16 => ab (v (ix3 R b s)) := by
  refine (Ideal.multiReduction_maximumf_single (absf v) 0xFF800000#32 h hφ hacc (ix2 R b)).trans ?_
  refine (fold_sup (k := 16) _).trans ?_
  refine congrArg (Finset.sup (Finset.univ : Finset (Fin 16))) (funext fun s => ?_)
  refine congrArg (fun i => ab (v i)) (funext fun a => ?_)
  match a with
  | ⟨0, _⟩ => exact Fin.ext rfl
  | ⟨1, _⟩ => exact Fin.ext rfl
  | ⟨2, _⟩ => exact Fin.ext rfl

/-- The rows' largest values. -/
theorem rowMax_apply (v : FVec Ideal (Blocks n) .f32) (h : (Blocks n).Reduces [1] (Rows n)) (hφ : FKind.Formats .f32)
    (hacc : 0xFF800000#32 = FKind.maximumf.neutral .f32 hφ) (R : Fin n) :
    (multiReduction .maximumf [1] (Rows n) v 0xFF800000#32 h hφ hacc (ix1 R) : EReal)
      = Finset.univ.sup fun b : Fin 128 => (v (ix2 R b) : EReal) := by
  refine (Ideal.multiReduction_maximumf_single v 0xFF800000#32 h hφ hacc (ix1 R)).trans ?_
  refine (fold_sup (k := 128) _).trans ?_
  refine congrArg (Finset.sup (Finset.univ : Finset (Fin 128))) (funext fun b => ?_)
  refine congrArg v (funext fun a => ?_)
  match a with
  | ⟨0, _⟩ => exact Fin.ext rfl
  | ⟨1, _⟩ => exact Fin.ext rfl

/-! ## The scales -/

/-- The rows' scales. -/
def rowScale {s : Shape} (r : FVec Ideal s .f32) : FVec Ideal s .f32 :=
  select (cmpf .ogt r (broadcast s (Scalar.ofBits .f32 0x00000000#32))) (divf r (broadcast s (Scalar.ofBits .f32 0x45280000#32)))
    (broadcast s (Scalar.ofBits .f32 0x3F800000#32))

/-- A row scale is the specification's, of the row's largest absolute value. -/
theorem rowScale_apply {s : Shape} (r : FVec Ideal s .f32) (i : s.Idx) : (rowScale r i : EReal) = sgS (r i) := rfl

/-- Rows read as a column. -/
theorem column_apply (g : FVec Ideal (Rows n) .f32) (h : (Rows n).ShapeCasts (Column n)) (R : Fin n) (z : Fin 1) :
    shapeCast (Column n) g h (ix2 R z) = g (ix1 R) := by
  have hz := z.isLt
  exact shapeCast_apply _ _ (ix2 R z) (ix1 R) (by
    rw [Shape.rowMajor_val_one, Shape.rowMajor_val_two]
    show R.val = R.val * 1 + z.val; omega)

/-- A column read at an entry of its row. -/
theorem across_apply (v : FVec Ideal (Column n) .f32) (h : (Column n).Broadcasts (Blocks n)) (R : Fin n) (b : Fin 128) :
    broadcastTo (Blocks n) v h (ix2 R b) = v (ix2 R (0 : Fin 1)) :=
  broadcastTo_apply _ _ _ _ fun a => match a with
    | ⟨0, _⟩ => by
      show R.val = if n = 1 then 0 else R.val
      have := R.isLt
      split <;> omega
    | ⟨1, _⟩ => rfl

/-- The blocks' scales. -/
def blockScale (b : FVec Ideal (Blocks n) .f32) (g : FVec Ideal (Rows n) .f32) (h : (Rows n).ShapeCasts (Column n))
    (h' : (Column n).Broadcasts (Blocks n)) (hb : FTy.fp8e4m3.bits < FTy.f32.bits) : FVec Ideal (Blocks n) .fp8e4m3 :=
  truncf .fp8e4m3 (minimumf (divf b (broadcastTo (Blocks n) (mulf (broadcast (Column n) (Scalar.ofBits .f32 0x40C00000#32))
    (shapeCast (Column n) g h)) h')) (broadcast (Blocks n) (Scalar.ofBits .f32 0x43E00000#32))) hb

/-- A block scale from the block's largest absolute value and the row scale. -/
theorem blockScale_apply (b : FVec Ideal (Blocks n) .f32) (g : FVec Ideal (Rows n) .f32) (h : (Rows n).ShapeCasts (Column n))
    (h' : (Column n).Broadcasts (Blocks n)) (hb : FTy.fp8e4m3.bits < FTy.f32.bits) (r : EReal) (R : Fin n) (j : Fin 128)
    (hg : (g (ix1 R) : EReal) = sgS r) : (blockScale b g h h' hb (ix2 R j) : EReal) = sbS (b (ix2 R j)) r := by
  have e : (blockScale b g h h' hb (ix2 R j) : EReal) = FloatOps.minimumf (F := Ideal) (φ := .f32) (dv (b (ix2 R j))
    (broadcastTo (Blocks n) (mulf (broadcast (Column n) (Scalar.ofBits .f32 0x40C00000#32)) (shapeCast (Column n) g h)) h' (ix2 R j)))
    (k32 0x43E00000#32) := rfl
  have e2 : (mulf (broadcast (Column n) (Scalar.ofBits .f32 0x40C00000#32)) (shapeCast (Column n) g h) (ix2 R (0 : Fin 1)) : EReal)
    = FloatOps.mulf (F := Ideal) (φ := .f32) (k32 0x40C00000#32) (shapeCast (Column n) g h (ix2 R (0 : Fin 1))) := rfl
  rw [e, across_apply, e2, column_apply, hg]
  rfl

/-- The scale each block's elements are divided by. -/
def eff (sb : FVec Ideal (Blocks n) .fp8e4m3) (g : FVec Ideal (Rows n) .f32) (h : (Rows n).ShapeCasts (Column n))
    (h' : (Column n).Broadcasts (Blocks n)) (hb : FTy.fp8e4m3.bits < FTy.f32.bits) : FVec Ideal (Blocks n) .f32 :=
  select (cmpf .oeq (mulf (extf .f32 sb hb) (broadcastTo (Blocks n) (shapeCast (Column n) g h) h'))
      (broadcast (Blocks n) (Scalar.ofBits .f32 0x00000000#32))) (broadcast (Blocks n) (Scalar.ofBits .f32 0x3F800000#32))
    (mulf (extf .f32 sb hb) (broadcastTo (Blocks n) (shapeCast (Column n) g h) h'))

/-- The scale an element is divided by, from the block scale and the row scale. -/
theorem eff_apply (sb : FVec Ideal (Blocks n) .fp8e4m3) (g : FVec Ideal (Rows n) .f32) (h : (Rows n).ShapeCasts (Column n))
    (h' : (Column n).Broadcasts (Blocks n)) (hb : FTy.fp8e4m3.bits < FTy.f32.bits) (b r : EReal) (R : Fin n) (j : Fin 128)
    (hg : (g (ix1 R) : EReal) = sgS r) (hs : (sb (ix2 R j) : EReal) = sbS b r) :
    (eff sb g h h' hb (ix2 R j) : EReal) = effS b r := by
  have e : (FloatOps.mulf (F := Ideal) (φ := .f32) (sb (ix2 R j)) (broadcastTo (Blocks n) (shapeCast (Column n) g h) h' (ix2 R j)) : EReal)
      = FloatOps.mulf (F := Ideal) (φ := .f32) (sbS b r) (sgS r) := by
    rw [across_apply, column_apply, hg, hs]
  exact congrArg (fun z : EReal => Scalar.select (cm .oeq z (k32 0x00000000#32)) (k32 0x3F800000#32) z) e

/-! ## The codes -/

/-- The quotients, clipped. -/
def clipped (v : FVec Ideal (Blocked n) .f32) (e : FVec Ideal (Blocks n) .f32) (h : (Blocks n).ShapeCasts (Blocks1 n))
    (h' : (Blocks1 n).Broadcasts (Blocked n)) : FVec Ideal (Blocked n) .f32 :=
  minimumf (broadcast (Blocked n) (Scalar.ofBits .f32 0x40C00000#32)) (maximumf (broadcast (Blocked n) (Scalar.ofBits .f32 0xC0C00000#32))
    (divf v (broadcastTo (Blocked n) (shapeCast (Blocks1 n) e h) h')))

/-- A clipped quotient from the element and its block's scale. -/
theorem clipped_apply (v : FVec Ideal (Blocked n) .f32) (e : FVec Ideal (Blocks n) .f32) (h : (Blocks n).ShapeCasts (Blocks1 n))
    (h' : (Blocks1 n).Broadcasts (Blocked n)) (R : Fin n) (b : Fin 128) (s : Fin 16) :
    (clipped v e h h' (ix3 R b s) : EReal) = clipS (dv (v (ix3 R b s)) (e (ix2 R b))) := by
  have e1 : broadcastTo (Blocked n) (shapeCast (Blocks1 n) e h) h' (ix3 R b s) = e (ix2 R b) :=
    (broadcastTo_apply _ _ (ix3 R b s) (ix3 R b (0 : Fin 1)) fun a => match a with
      | ⟨0, _⟩ => by
        show R.val = if n = 1 then 0 else R.val
        have := R.isLt
        split <;> omega
      | ⟨1, _⟩ => rfl
      | ⟨2, _⟩ => rfl).trans (shapeCast_apply _ _ (ix3 R b (0 : Fin 1)) (ix2 R b) (by
        rw [Shape.rowMajor_val_two, Shape.rowMajor_val_three]
        show R.val * 128 + b.val = (R.val * 128 + b.val) * 1 + 0; omega))
  exact congrArg (fun z : EReal => clipS (dv (v (ix3 R b s)) z)) e1

/-- A comparison with a threshold as bytes. -/
def passes {s : Shape} (a : FVec Ideal s .f32) (k : BitVec 32) (h : 1 < 8) : IVec s 8 :=
  extui 8 (cmpf .oge a (broadcast s (Scalar.ofBits .f32 k))) h

/-- The codes of clipped quotients. -/
def codeVec {s : Shape} (u : FVec Ideal s .f32) (c2 c4 : IVec s 1) (one : FVec Ideal s .f32) (two : Ideal .f32) (h : 1 < 8) : IVec s 8 :=
  let step : FVec Ideal s .f32 := select c2 (broadcast s (Scalar.ofBits .f32 0x3F000000#32)) (select c4 one (broadcast s two))
  let w : FVec Ideal s .f32 := mulf (roundeven (divf u step)) step
  addi (select (cmpf .olt w (broadcast s (Scalar.ofBits .f32 0x00000000#32))) (broadcast s 8#8) (broadcast s 0#8))
    (addi (addi (addi (addi (addi (addi (addi (broadcast s 0#8) (passes (absf w) 0x3F000000#32 h)) (passes (absf w) 0x3F800000#32 h))
      (passes (absf w) 0x3FC00000#32 h)) (passes (absf w) 0x40000000#32 h)) (passes (absf w) 0x40400000#32 h))
      (passes (absf w) 0x40800000#32 h)) (passes (absf w) 0x40C00000#32 h))

/-- A code, entry by entry, from the clipped quotient and its two comparisons. -/
theorem codeVec_apply {s : Shape} (u : FVec Ideal s .f32) (h : 1 < 8) (i : s.Idx) :
    codeVec u (cmpf .olt (absf u) (broadcast s (Scalar.ofBits .f32 0x40000000#32)))
      (cmpf .olt (absf u) (broadcast s (Scalar.ofBits .f32 0x40800000#32))) (broadcast s (Scalar.ofBits .f32 0x3F800000#32))
      (Scalar.ofBits .f32 0x40000000#32) h i = codeOf (nearS (u i)) := rfl

/-- Codes by blocks read in pairs. -/
theorem pairs_apply (c : IVec (Blocked n) 8) (h : (Blocked n).ShapeCasts (Pairs n)) (R : Fin n) (j : Fin 1024) (p : Fin 2) :
    shapeCast (Pairs n) c h (ix3 R j p) = c (ix3 R (⟨(2 * j.val + p.val) / 16, by omega⟩ : Fin 128) (⟨(2 * j.val + p.val) % 16, by omega⟩ : Fin 16)) := by
  have hj := j.isLt
  have hp := p.isLt
  exact shapeCast_apply _ _ (ix3 R j p) (ix3 R (⟨(2 * j.val + p.val) / 16, by omega⟩ : Fin 128) (⟨(2 * j.val + p.val) % 16, by omega⟩ : Fin 16)) (by
    rw [Shape.rowMajor_val_three, Shape.rowMajor_val_three]
    show (R.val * 128 + (2 * j.val + p.val) / 16) * 16 + (2 * j.val + p.val) % 16 = (R.val * 1024 + j.val) * 2 + p.val; omega)

/-- One of each pair. -/
theorem single_apply (c : IVec (Pairs n) 8) (p : Fin 2) (h : (Pairs n).Slices ![0, 0, p.val] (Singles n))
    (h' : (Singles n).ShapeCasts (Bytes n)) (R : Fin n) (j : Fin 1024) :
    shapeCast (Bytes n) (extractStridedSlice (Singles n) ![0, 0, p.val] c h) h' (ix2 R j) = c (ix3 R j p) :=
  (shapeCast_apply _ _ (ix2 R j) (ix3 R j (0 : Fin 1)) (by
    rw [Shape.rowMajor_val_two, Shape.rowMajor_val_three]
    show (R.val * 1024 + j.val) * 1 + 0 = R.val * 1024 + j.val; omega)).trans
    (congrArg c (funext fun a => Fin.ext (match a with
      | ⟨0, _⟩ => Nat.zero_add _
      | ⟨1, _⟩ => Nat.zero_add _
      | ⟨2, _⟩ => rfl)))

/-- Two codes to a byte. -/
theorem byte_apply {s : Shape} (lo hi : IVec s 8) (i : s.Idx) (v v' : EReal) (h : lo i = codeS v) (h' : hi i = codeS v') :
    ori lo (shli hi (broadcast s 4#8)) i = byteS v v' :=
  congrArg₂ (fun a b : BitVec 8 => IntOp.ori a (IntOp.shli .vector b 4#8)) h h'

end Cert.Rows

end
-- ==== Proof.Ref.lean ====
/- The reference's three results, at the extended reals, an entry at a time. -/
module

public import proofs.«01_k».proof.Proof.RefRows
public import proofs.«01_k».proof.Proof.Gen.ReferenceIdeal.Value

@[expose] public section

set_option maxRecDepth 16384

noncomputable section

namespace Cert.ReferenceIdeal.Body

open Cert.ReferenceIdeal Cert.ReferenceIdeal.Gen Idealize.ShloMosaic Idealize.SL.Sem Cert.Spec
open Idealize.ShloMosaic.ValueIdx (ix1 ix2 ix3)
open Cert.KernelIdeal.Body (quotS)
open Cert.Rows (row)

/-! ## The payloads as operations over the rows -/

/-- The reference's rows in blocks. -/
theorem pay3_eq (x : Vec Ideal S65536x2048 .bf16) : k0_pay3 x = Cert.Rows.blocked (n := 65536) x shapeCasts_S65536x2048_S65536x2048
    bitsLt_bf16_f32 shapeCasts_S65536x2048_S65536x128x16 := rfl

/-- The reference's largest absolute value of each block. -/
theorem pay4_eq (x : Vec Ideal S65536x2048 .bf16) : k0_pay4 x = multiReduction .maximumf [2] (Cert.Rows.Blocks 65536) (absf (k0_pay3 x)) 0xFF800000#32
    reduces_S65536x128x16_S65536x128 (.inl rfl) rfl := rfl

/-- The reference's row scales. -/
theorem pay5_eq (x : Vec Ideal S65536x2048 .bf16) : k0_pay5 x = Cert.Rows.rowScale
    (multiReduction .maximumf [1] (Cert.Rows.Rows 65536) (k0_pay4 x) 0xFF800000#32 reduces_S65536x128_S65536 (.inl rfl) rfl) := rfl

/-- The reference's block scales. -/
theorem pay6_eq (x : Vec Ideal S65536x2048 .bf16) : k0_pay6 x = Cert.Rows.blockScale (n := 65536) (k0_pay4 x) (k0_pay5 x)
    shapeCasts_S65536_S65536x1 broadcasts_S65536x1_S65536x128 bitsLt_fp8e4m3_f32 := rfl

/-- The reference's clipped quotients. -/
theorem pay7_eq (x : Vec Ideal S65536x2048 .bf16) : k0_pay7 x = Cert.Rows.clipped (n := 65536) (k0_pay3 x)
    (Cert.Rows.eff (n := 65536) (k0_pay6 x) (k0_pay5 x) shapeCasts_S65536_S65536x1 broadcasts_S65536x1_S65536x128 bitsLt_fp8e4m3_f32)
    shapeCasts_S65536x128_S65536x128x1 broadcasts_S65536x128x1_S65536x128x16 := rfl

/-- Which clipped quotients are below two. -/
theorem pay8_eq (x : Vec Ideal S65536x2048 .bf16) : k0_pay8 x
    = cmpf .olt (absf (k0_pay7 x)) (broadcast S65536x128x16 (Scalar.ofBits .f32 0x40000000#32)) := rfl

/-- Which clipped quotients are below four. -/
theorem pay9_eq (x : Vec Ideal S65536x2048 .bf16) : k0_pay9 x
    = cmpf .olt (absf (k0_pay7 x)) (broadcast S65536x128x16 (Scalar.ofBits .f32 0x40800000#32)) := rfl

/-- The reference's codes in pairs. -/
theorem pay11_eq (u : FVec Ideal S65536x128x16 .f32) (c2 c4 : IVec S65536x128x16 1) (two : Ideal .f32) (one : FVec Ideal S65536x128x16 .f32) :
    k0_pay11 u c2 c4 two one = shapeCast (Cert.Rows.Pairs 65536) (Cert.Rows.codeVec u c2 c4 one two natLt_1_8)
      shapeCasts_S65536x128x16_S65536x1024x2 := rfl

/-- The first code of each pair. -/
theorem pay12_eq (u : FVec Ideal S65536x128x16 .f32) (c2 c4 : IVec S65536x128x16 1) (two : Ideal .f32) (one : FVec Ideal S65536x128x16 .f32) :
    k0_pay12 u c2 c4 two one = shapeCast (Cert.Rows.Bytes 65536) (extractStridedSlice (Cert.Rows.Singles 65536) ![0, 0, (0 : Fin 2).val]
      (k0_pay11 u c2 c4 two one) slices_S65536x1024x2_o0_0_0_S65536x1024x1) shapeCasts_S65536x1024x1_S65536x1024 := rfl

/-- The second code of each pair. -/
theorem pay13_eq (u : FVec Ideal S65536x128x16 .f32) (c2 c4 : IVec S65536x128x16 1) (two : Ideal .f32) (one : FVec Ideal S65536x128x16 .f32) :
    k0_pay13 u c2 c4 two one = shapeCast (Cert.Rows.Bytes 65536) (extractStridedSlice (Cert.Rows.Singles 65536) ![0, 0, (1 : Fin 2).val]
      (k0_pay11 u c2 c4 two one) slices_S65536x1024x2_o0_0_1_S65536x1024x1) shapeCasts_S65536x1024x1_S65536x1024 := rfl

/-- Two codes to a byte. -/
theorem pay1_eq (lo hi : IVec S65536x1024 8) : k0_pay1 lo hi = ori lo (shli hi (broadcast S65536x1024 4#8)) := rfl

/-- The row scales laid out as the result holds them. -/
theorem pay2_eq (g : FVec Ideal S65536 .f32) : k0_pay2 g = shapeCast S256x1x256 g shapeCasts_S65536_S256x1x256 := rfl

/-! ## The results -/

/-- The argument in blocks of sixteen columns. -/
theorem pay3_apply (x : Vec Ideal S65536x2048 .bf16) (R : Fin 65536) (b : Fin 128) (s : Fin 16) :
    (k0_pay3 x (ix3 R b s) : EReal) = row (n := 65536) x R ⟨16 * b.val + s.val, by omega⟩ :=
  (congrFun (pay3_eq x) (ix3 R b s)).trans (Cert.Rows.blocked_apply (n := 65536) x _ _ _ R b s)

/-- The blocks' largest absolute values. -/
theorem pay4_apply (x : Vec Ideal S65536x2048 .bf16) (R : Fin 65536) (b : Fin 128) :
    (k0_pay4 x (ix2 R b) : EReal) = bmax (row (n := 65536) x R) b :=
  (congrFun (pay4_eq x) (ix2 R b)).trans ((Cert.Rows.blockMax_apply (n := 65536) (k0_pay3 x) _ _ _ R b).trans
    (congrArg (Finset.sup Finset.univ) (funext fun s => congrArg ab (pay3_apply x R b s))))

/-- The rows' scales. -/
theorem pay5_apply (x : Vec Ideal S65536x2048 .bf16) (R : Fin 65536) :
    (k0_pay5 x (ix1 R) : EReal) = sgS (rmax (row (n := 65536) x R)) :=
  (congrFun (pay5_eq x) (ix1 R)).trans ((Cert.Rows.rowScale_apply _ (ix1 R)).trans
    (congrArg sgS ((Cert.Rows.rowMax_apply (n := 65536) (k0_pay4 x) _ _ _ R).trans
      (congrArg (Finset.sup Finset.univ) (funext fun b => pay4_apply x R b)))))

/-- The blocks' scales. -/
theorem pay6_apply (x : Vec Ideal S65536x2048 .bf16) (R : Fin 65536) (b : Fin 128) :
    (k0_pay6 x (ix2 R b) : EReal) = sbS (bmax (row (n := 65536) x R) b) (rmax (row (n := 65536) x R)) :=
  (congrFun (pay6_eq x) (ix2 R b)).trans ((Cert.Rows.blockScale_apply (n := 65536) (k0_pay4 x) (k0_pay5 x) _ _ _ _ R b (pay5_apply x R)).trans
    (congrArg (fun z => sbS z (rmax (row (n := 65536) x R))) (pay4_apply x R b)))

/-- The quotients, clipped. -/
theorem pay7_apply (x : Vec Ideal S65536x2048 .bf16) (R : Fin 65536) (b : Fin 128) (s : Fin 16) :
    (k0_pay7 x (ix3 R b s) : EReal) = clipS (quotS (row (n := 65536) x R) ⟨16 * b.val + s.val, by omega⟩) := by
  have hb := b.isLt
  have hs := s.isLt
  refine (congrFun (pay7_eq x) (ix3 R b s)).trans ((Cert.Rows.clipped_apply (n := 65536) (k0_pay3 x) _ _ _ R b s).trans ?_)
  refine congrArg clipS ?_
  refine (congrArg₂ dv (pay3_apply x R b s) (Cert.Rows.eff_apply (n := 65536) (k0_pay6 x) (k0_pay5 x) _ _ _ _ _ R b
    (pay5_apply x R) (pay6_apply x R b))).trans ?_
  unfold quotS
  rw [show (⟨(16 * b.val + s.val) / 16, by omega⟩ : Fin 128) = b from Fin.ext (by show (16 * b.val + s.val) / 16 = b.val; omega)]

/-- The codes, from the clipped quotients. -/
abbrev codes (x : Vec Ideal S65536x2048 .bf16) : IVec S65536x1024x2 8 :=
  k0_pay11 (k0_pay7 x) (k0_pay8 x) (k0_pay9 x) (Scalar.ofBits .f32 0x40000000#32) (k0_pay10 (F := Ideal))

/-- The codes in pairs, from the clipped quotients alone. -/
theorem codes_eq (x : Vec Ideal S65536x2048 .bf16) : codes x = shapeCast (Cert.Rows.Pairs 65536) (Cert.Rows.codeVec (k0_pay7 x)
      (cmpf .olt (absf (k0_pay7 x)) (broadcast S65536x128x16 (Scalar.ofBits .f32 0x40000000#32)))
      (cmpf .olt (absf (k0_pay7 x)) (broadcast S65536x128x16 (Scalar.ofBits .f32 0x40800000#32)))
      (broadcast S65536x128x16 (Scalar.ofBits .f32 0x3F800000#32)) (Scalar.ofBits .f32 0x40000000#32) natLt_1_8)
    shapeCasts_S65536x128x16_S65536x1024x2 := by
  unfold codes
  rw [pay8_eq, pay9_eq]
  exact pay11_eq _ _ _ _ _

/-- The codes in pairs. -/
theorem codes_apply (x : Vec Ideal S65536x2048 .bf16) (R : Fin 65536) (j : Fin 1024) (p : Fin 2) :
    codes x (ix3 R j p) = codeS (quotS (row (n := 65536) x R) ⟨2 * j.val + p.val, by omega⟩) := by
  have hj := j.isLt
  have hp := p.isLt
  refine (congrFun (codes_eq x) (ix3 R j p)).trans ((Cert.Rows.pairs_apply (n := 65536) _ _ R j p).trans
    ((Cert.Rows.codeVec_apply (k0_pay7 x) natLt_1_8 _).trans ?_))
  refine (congrArg (fun u : EReal => codeOf (nearS u)) (pay7_apply x R _ _)).trans ?_
  exact congrArg (fun c => codeS (quotS (row (n := 65536) x R) c)) (Fin.ext (Nat.div_add_mod _ 16))

/-- The bytes. -/
theorem bytes_apply (x : Vec Ideal S65536x2048 .bf16) (R : Fin 65536) (j : Fin 1024) :
    k0_pay1 (k0_pay12 (k0_pay7 x) (k0_pay8 x) (k0_pay9 x) (Scalar.ofBits .f32 0x40000000#32) (k0_pay10 (F := Ideal)))
        (k0_pay13 (k0_pay7 x) (k0_pay8 x) (k0_pay9 x) (Scalar.ofBits .f32 0x40000000#32) (k0_pay10 (F := Ideal))) (ix2 R j)
      = byteS (quotS (row (n := 65536) x R) ⟨2 * j.val, by omega⟩) (quotS (row (n := 65536) x R) ⟨2 * j.val + 1, by omega⟩) :=
  (congrFun (pay1_eq _ _) (ix2 R j)).trans (Cert.Rows.byte_apply _ _ (ix2 R j) _ _
    ((congrFun (pay12_eq _ _ _ _ _) (ix2 R j)).trans ((Cert.Rows.single_apply (n := 65536) (codes x) 0 _ _ R j).trans (codes_apply x R j 0)))
    ((congrFun (pay13_eq _ _ _ _ _) (ix2 R j)).trans ((Cert.Rows.single_apply (n := 65536) (codes x) 1 _ _ R j).trans (codes_apply x R j 1))))

/-- The row scales in the result's shape. -/
theorem rows_apply (x : Vec Ideal S65536x2048 .bf16) (i : Fin 256) (z : Fin 1) (l : Fin 256) :
    (k0_pay2 (k0_pay5 x) (ix3 i z l) : EReal) = sgS (rmax (row (n := 65536) x ⟨256 * i.val + l.val, by omega⟩)) := by
  have hi := i.isLt
  have hz := z.isLt
  have hl := l.isLt
  exact (congrFun (pay2_eq _) (ix3 i z l)).trans ((shapeCast_apply _ _ (ix3 i z l) (ix1 ⟨256 * i.val + l.val, by omega⟩) (by
    rw [Shape.rowMajor_val_one, Shape.rowMajor_val_three]
    show 256 * i.val + l.val = (i.val * 1 + z.val) * 256 + l.val; omega)).trans (pay5_apply x _))

end Cert.ReferenceIdeal.Body

end
-- ==== Proof.Bridge.lean ====
/- What the printed body stores is `Body.lean`'s functions. Generic in the float instance. -/
module

public import proofs.«01_k».proof.Proof.Gen.KernelIdeal.Frame
public import proofs.«01_k».proof.Proof.Body

@[expose] public section

set_option maxRecDepth 65536
set_option maxHeartbeats 4000000

noncomputable section

namespace Cert.KernelIdeal.Body

open Cert.KernelIdeal Cert.KernelIdeal.Gen Idealize.ShloMosaic Idealize.SL.Sem

variable {F : FTy → Type} [FloatOps F]

/-- The block's scales are stored whole. -/
theorem out0_3_eq (x0 : Vec F S256x2048 .bf16) (x1 : Vec F S256x256 .bf16) :
    out0_3 x0 x1 = View.canon [⟨r0_256, scales x0⟩] := rfl

/-- The row scales are stored in two halves. -/
theorem out0_4_eq (x0 : Vec F S256x2048 .bf16) (x1 : Vec F S256x256 .bf16) :
    out0_4 x0 x1 = View.canon [⟨r0_258, rowScales x0 1⟩, ⟨r0_257, rowScales x0 0⟩] := rfl

/-- The packed codes are stored tile by tile. -/
theorem out0_2_eq (x0 : Vec F S256x2048 .bf16) (x1 : Vec F S256x256 .bf16) :
    out0_2 x0 x1 = View.canon [⟨r0_275, packed x0 x1 7⟩, ⟨r0_273, packed x0 x1 6⟩, ⟨r0_271, packed x0 x1 5⟩, ⟨r0_269, packed x0 x1 4⟩, ⟨r0_267, packed x0 x1 3⟩, ⟨r0_265, packed x0 x1 2⟩, ⟨r0_263, packed x0 x1 1⟩, ⟨r0_261, packed x0 x1 0⟩] := rfl

end Cert.KernelIdeal.Body

end
-- ==== Proof.Entry.lean ====
/- What the kernel's grid finds in its two operands: the argument's rows, and the matrix that moves the even columns first. -/
module

public import proofs.«01_k».proof.Proof.Codes
public import proofs.«01_k».proof.Proof.Gen.KernelIdeal.Value
public import proofs.«01_k».proof.Proof.Gen.ReferenceIdeal.Value
public import Idealize.ShloMosaic.Lib.Claim
public import Idealize.ShloMosaic.Lib.StableHlo.ReadAt

@[expose] public section

set_option maxRecDepth 16384

noncomputable section

namespace Cert.KernelIdeal.Body

open Cert.KernelIdeal Cert.KernelIdeal.Gen Idealize.ShloMosaic Idealize.SL.Sem Cert.Spec
open Idealize.ShloMosaic.ValueIdx (ix1 ix2 ix3)

variable (m : (ℓ : Loc nD τ sig) → Buf (Elt Ideal) ℓ)

/-- The first operand of the grid is the argument with its two leading axes joined. -/
theorem V_rows (c : Dev nD) : (V m c main_v0 : Vec Ideal S65536x2048 .bf16)
    = shapeCast S65536x2048 (m (c.tc.loc main_arg0) : Vec Ideal S16x4096x2048 .bf16) shapeCasts_S16x4096x2048_S65536x2048 := by
  entry_read
  rfl

/-- The remainder by 128 as the program takes it. -/
def remW (a : BitVec 32) : BitVec 32 :=
  let n := Scalar.select (IntOp.cmpi .eq 128#32 0#32) 1#32 128#32
  let r := IntOp.remsi .host a n
  Scalar.select (IntOp.andi (IntOp.cmpi .ne (IntOp.cmpi .slt r 0#32) (IntOp.cmpi .slt n 0#32)) (IntOp.cmpi .ne r 0#32)) (IntOp.addi r n) r

/-- The sign of a word. -/
def signW (a : BitVec 32) : BitVec 32 := if a = 0 then 0 else if a.msb then -1 else 1

/-- The quotient by 128 as the program takes it. -/
def divW (a : BitVec 32) : BitVec 32 :=
  let q := IntOp.divsi .host a 128#32
  Scalar.select (IntOp.andi (IntOp.cmpi .ne (signW a) (signW 128#32)) (IntOp.cmpi .ne (IntOp.remsi .host a 128#32) 0#32)) (IntOp.subi q 1#32) q

/-- The second operand of the grid, entry by entry: one where the row is twice the remainder by 128 of the column plus its quotient, as the program computes these. -/
theorem V_matrix (c : Dev nD) : (V m c main_v9 : Vec Ideal S256x256 .bf16)
    = fun i => FloatOps.uitofp (F := Ideal) .bf16 (IntOp.cmpi .eq (BitVec.ofNat 32 (i 0).val)
        (IntOp.addi (IntOp.muli 2#32 (remW (BitVec.ofNat 32 (i 1).val))) (divW (BitVec.ofNat 32 (i 1).val)))) := by
  show StableHlo.after _ _ _ = _
  simp only [hostOps0, hostOps0_1, hostOps0_2, hostOps0_3, hostOps0_4, List.flatten_cons, List.flatten_nil, List.append_nil, List.cons_append,
      List.nil_append]
  after_reads_simp
  simp -implicitDefEqProofs only [StableHlo.TRef.toBuf, StableHlo.TRef.ofBuf, cast_cast, cast_eq]
  rfl

/-- The word the row's number is compared with. -/
theorem col_word : ∀ k : Fin 256, IntOp.addi (IntOp.muli 2#32 (remW (BitVec.ofNat 32 k.val))) (divW (BitVec.ofNat 32 k.val))
    = BitVec.ofNat 32 (colOf k.val) := by decide +kernel

/-- The matrix moves the even columns first. -/
theorem moves (c : Dev nD) : Moves (V m c main_v9) := by
  intro r k
  have hr := r.isLt
  have hk := k.isLt
  refine (congrFun (V_matrix m c) (ValueIdx.ix2 r k)).trans ?_
  show FloatOps.uitofp (F := Ideal) .bf16 (IntOp.cmpi .eq (BitVec.ofNat 32 r.val)
    (IntOp.addi (IntOp.muli 2#32 (remW (BitVec.ofNat 32 k.val))) (divW (BitVec.ofNat 32 k.val)))) = _
  rw [col_word]
  have hd : (BitVec.ofNat 32 r.val = BitVec.ofNat 32 (colOf k.val)) ↔ r.val = colOf k.val := by
    show _ ↔ r.val = 2 * (k.val % 128) + k.val / 128
    rw [← BitVec.toNat_inj, BitVec.toNat_ofNat, BitVec.toNat_ofNat]
    show _ % _ = (2 * (k.val % 128) + k.val / 128) % _ ↔ _
    omega
  show ((((BitVec.ofBool (BitVec.ofNat 32 r.val == BitVec.ofNat 32 (colOf k.val))).toNat : ℝ)) : EReal) = _
  by_cases h : r.val = colOf k.val
  · rw [if_pos h, beq_iff_eq.2 (hd.2 h)]; simp
  · rw [if_neg h, beq_eq_false_iff_ne.2 (fun e => h (hd.1 e))]; simp

end Cert.KernelIdeal.Body

end
-- ==== Proof.Kern.lean ====
/- The kernel's three results, at the extended reals, an entry at a time. -/
module

public import proofs.«01_k».proof.Proof.Bridge
public import proofs.«01_k».proof.Proof.Entry

@[expose] public section

set_option maxRecDepth 16384

noncomputable section

namespace Cert.KernelIdeal.Body

open Cert.KernelIdeal Cert.KernelIdeal.Gen Idealize.ShloMosaic Idealize.SL.Sem Cert.Spec

/-- An index by two coordinates. -/
abbrev at2 {n m : Nat} (i : Fin n) (j : Fin m) : (⟨2, ![n, m]⟩ : Shape).Idx := ValueIdx.ix2 i j
/-- An index by three coordinates. -/
abbrev at3 {n m k : Nat} (i : Fin n) (j : Fin m) (l : Fin k) : (⟨3, ![n, m, k]⟩ : Shape).Idx := ValueIdx.ix3 i j l

/-- An index of two axes is the index by its coordinates. -/
theorem at2_eta {n m : Nat} (y : (⟨2, ![n, m]⟩ : Shape).Idx) : y = at2 (y 0) (y 1) :=
  funext fun a => match a with
    | ⟨0, _⟩ => rfl
    | ⟨1, _⟩ => rfl

/-- An index of three axes is the index by its coordinates. -/
theorem at3_eta {n m k : Nat} (y : (⟨3, ![n, m, k]⟩ : Shape).Idx) : y = at3 (y 0) (y 1) (y 2) :=
  funext fun a => match a with
    | ⟨0, _⟩ => rfl
    | ⟨1, _⟩ => rfl
    | ⟨2, _⟩ => rfl

/-- The byte `j` of a row: the codes of columns `2 j` and `2 j + 1`. -/
def byteRow (X : Fin 2048 → EReal) (j : Fin 1024) : BitVec 8 :=
  byteS (quotS X ⟨2 * j.val, by omega⟩) (quotS X ⟨2 * j.val + 1, by omega⟩)

/-- The block scale `j` of a row. -/
def scaleRow (X : Fin 2048 → EReal) (j : Fin 128) : EReal := sbS (bmax X j) (rmax X)

/-! ## What a point leaves in its blocks -/

/-- The block scales of a point's block. -/
theorem out3_apply (x0 : Vec Ideal S256x2048 .bf16) (x1 : Vec Ideal S256x256 .bf16) (p : Fin 256) (l : Fin 128) :
    (out0_3 x0 x1 (at2 p l) : EReal) = scaleRow (rowOf x0 p) l := by
  rw [out0_3_eq]
  refine View.canon_apply_of_pieces (Val := Elt Ideal) (S := S256x128) (e := .fp8e4m3) (fun y => (scaleRow (rowOf x0 (y 0)) (y 1) : EReal)) _ ?_ (at2 p l) (cover0_3 _ _)
  intro pc hpc
  rcases List.mem_cons.mp hpc with rfl | hpc
  · intro x
    have e : r0_256.emb x = x := funext fun a => Fin.ext (match a with
      | ⟨0, _⟩ => by show 0 + 1 * _ = _; omega
      | ⟨1, _⟩ => by show 0 + 1 * _ = _; omega)
    have h := scales_apply x0 (x 0) (x 1)
    rw [e]
    exact (congrArg (scales x0) (at2_eta x)).trans h
  nomatch hpc

/-- A half of the row scales of a point's block. -/
theorem half_rows (x0 : Vec Ideal S256x2048 .bf16) (c : Nat) (hc : c < 2) (x : S1x1x128.Idx) (y : S1x1x256.Idx)
    (hy : (y 2).val = 128 * c + (x 2).val) :
    (rowScales x0 c x : EReal) = sgS (rmax (rowOf x0 (y 2))) :=
  (congrArg (rowScales x0 c) (at3_eta x)).trans ((rowScales_apply x0 c hc (x 0) (x 1) (x 2)).trans
    (congrArg (fun R => sgS (rmax (rowOf x0 R))) (Fin.ext hy.symm)))

/-- The row scales of a point's block. -/
theorem out4_apply (x0 : Vec Ideal S256x2048 .bf16) (x1 : Vec Ideal S256x256 .bf16) (a b : Fin 1) (p : Fin 256) :
    (out0_4 x0 x1 (at3 a b p) : EReal) = sgS (rmax (rowOf x0 p)) := by
  rw [out0_4_eq]
  refine View.canon_apply_of_pieces (Val := Elt Ideal) (S := S1x1x256) (e := .f32) (fun y => (sgS (rmax (rowOf x0 (y 2))) : EReal)) _ ?_ (at3 a b p) (cover0_4 _ _ _)
  intro pc hpc
  rcases List.mem_cons.mp hpc with rfl | hpc
  · exact fun x => half_rows x0 1 (by decide) x _ (by show 128 + 1 * (x 2).val = 128 * 1 + (x 2).val; omega)
  rcases List.mem_cons.mp hpc with rfl | hpc
  · exact fun x => half_rows x0 0 (by decide) x _ (by show 0 + 1 * (x 2).val = 128 * 0 + (x 2).val; omega)
  nomatch hpc

/-- A tile of the bytes of a point's block. -/
theorem tile_bytes (x0 : Vec Ideal S256x2048 .bf16) (x1 : Vec Ideal S256x256 .bf16) (hw : Moves x1) (t : Nat) (ht : t < 8)
    (x : S256x128.Idx) (y : S256x1024.Idx) (h0 : (y 0).val = (x 0).val) (h1 : (y 1).val = 128 * t + (x 1).val) :
    packed x0 x1 t x = byteRow (rowOf x0 (y 0)) (y 1) := by
  refine (congrArg (packed x0 x1 t) (at2_eta x)).trans ((packed_apply x0 x1 hw t ht (x 0) (x 1)).trans ?_)
  unfold byteRow
  have e0 : (x 0 : Fin 256) = y 0 := Fin.ext h0.symm
  rw [e0]
  exact congrArg₂ (fun u v => byteS (quotS (rowOf x0 (y 0)) u) (quotS (rowOf x0 (y 0)) v))
    (Fin.ext (by show 256 * t + 2 * (x 1).val = 2 * (y 1).val; omega))
    (Fin.ext (by show 256 * t + 2 * (x 1).val + 1 = 2 * (y 1).val + 1; omega))

/-- The bytes of a point's block. -/
theorem out2_apply (x0 : Vec Ideal S256x2048 .bf16) (x1 : Vec Ideal S256x256 .bf16) (hw : Moves x1) (p : Fin 256) (j : Fin 1024) :
    out0_2 x0 x1 (at2 p j) = byteRow (rowOf x0 p) j := by
  rw [out0_2_eq]
  refine View.canon_apply_of_pieces (Val := Elt Ideal) (S := S256x1024) (e := .i8) (fun y => byteRow (rowOf x0 (y 0)) (y 1)) _ ?_ (at2 p j) (cover0_2 _ _ _ _ _ _ _ _ _)
  intro pc hpc
  rcases List.mem_cons.mp hpc with rfl | hpc
  · exact fun x => tile_bytes x0 x1 hw 7 (by decide) x _ (by show 0 + 1 * (x 0).val = (x 0).val; omega) (by show 896 + 1 * (x 1).val = 128 * 7 + (x 1).val; omega)
  rcases List.mem_cons.mp hpc with rfl | hpc
  · exact fun x => tile_bytes x0 x1 hw 6 (by decide) x _ (by show 0 + 1 * (x 0).val = (x 0).val; omega) (by show 768 + 1 * (x 1).val = 128 * 6 + (x 1).val; omega)
  rcases List.mem_cons.mp hpc with rfl | hpc
  · exact fun x => tile_bytes x0 x1 hw 5 (by decide) x _ (by show 0 + 1 * (x 0).val = (x 0).val; omega) (by show 640 + 1 * (x 1).val = 128 * 5 + (x 1).val; omega)
  rcases List.mem_cons.mp hpc with rfl | hpc
  · exact fun x => tile_bytes x0 x1 hw 4 (by decide) x _ (by show 0 + 1 * (x 0).val = (x 0).val; omega) (by show 512 + 1 * (x 1).val = 128 * 4 + (x 1).val; omega)
  rcases List.mem_cons.mp hpc with rfl | hpc
  · exact fun x => tile_bytes x0 x1 hw 3 (by decide) x _ (by show 0 + 1 * (x 0).val = (x 0).val; omega) (by show 384 + 1 * (x 1).val = 128 * 3 + (x 1).val; omega)
  rcases List.mem_cons.mp hpc with rfl | hpc
  · exact fun x => tile_bytes x0 x1 hw 2 (by decide) x _ (by show 0 + 1 * (x 0).val = (x 0).val; omega) (by show 256 + 1 * (x 1).val = 128 * 2 + (x 1).val; omega)
  rcases List.mem_cons.mp hpc with rfl | hpc
  · exact fun x => tile_bytes x0 x1 hw 1 (by decide) x _ (by show 0 + 1 * (x 0).val = (x 0).val; omega) (by show 128 + 1 * (x 1).val = 128 * 1 + (x 1).val; omega)
  rcases List.mem_cons.mp hpc with rfl | hpc
  · exact fun x => tile_bytes x0 x1 hw 0 (by decide) x _ (by show 0 + 1 * (x 0).val = (x 0).val; omega) (by show 0 + 1 * (x 1).val = 128 * 0 + (x 1).val; omega)
  nomatch hpc

/-! ## The arrays -/

variable (m : (ℓ : Loc nD τ sig) → Buf (Elt Ideal) ℓ)

/-- The argument's rows as the grid finds them. -/
abbrev argRows (c : Dev nD) : Vec Ideal S65536x2048 .bf16 := V m c main_v0

/-- Row `R` of the argument. -/
abbrev argRow (c : Dev nD) (R : Fin 65536) : Fin 2048 → EReal := fun k => argRows m c (at2 R k)

/-- The grid has 256 points. -/
theorem N_eq : cfg0.N = 256 := by decide +kernel

/-- The point whose blocks hold row `R`. -/
abbrev pointOf (R : Fin 65536) : Fin cfg0.N := ⟨R.val / 256, by rw [N_eq]; omega⟩

/-- The point whose block of the row scales is block `i`. -/
abbrev pointAt (i : Fin 256) : Fin cfg0.N := ⟨i.val, by rw [N_eq]; omega⟩

/-- Point `t` reads block `t` of the rows. -/
theorem idx0 : ∀ t : Fin cfg0.N, win0_0.index t = ![t.val, 0] :=
  (by decide +kernel : ∀ t : Fin grid0.N, win0_0.index t = ![t.val, 0])
/-- Every point reads the whole matrix. -/
theorem idx1 : ∀ t : Fin cfg0.N, win0_1.index t = ![0, 0] :=
  (by decide +kernel : ∀ t : Fin grid0.N, win0_1.index t = ![0, 0])
/-- Point `t` writes block `t` of the packed codes. -/
theorem idx2 : ∀ t : Fin cfg0.N, win0_2.index t = ![t.val, 0] :=
  (by decide +kernel : ∀ t : Fin grid0.N, win0_2.index t = ![t.val, 0])
/-- Point `t` writes block `t` of the block scales. -/
theorem idx3 : ∀ t : Fin cfg0.N, win0_3.index t = ![t.val, 0] :=
  (by decide +kernel : ∀ t : Fin grid0.N, win0_3.index t = ![t.val, 0])
/-- Point `t` writes block `t` of the row scales. -/
theorem idx4 : ∀ t : Fin cfg0.N, win0_4.index t = ![t.val, 0, 0] :=
  (by decide +kernel : ∀ t : Fin grid0.N, win0_4.index t = ![t.val, 0, 0])

/-- A point's block of the argument. -/
theorem block_row (c : Dev nD) (t : Fin cfg0.N) (p : Fin 256) (R : Fin 65536) (hR : R.val = 256 * t.val + p.val) :
    rowOf (iblk m c 0 t) p = argRow m c R := by
  funext k
  refine congrArg (argRows m c) (funext fun a => Fin.ext ?_)
  match a with
  | ⟨0, h⟩ =>
    refine (Pipeline.Window.rect_emb_val win0_0 t (at2 p k) ⟨0, h⟩).trans ?_
    rw [idx0]
    show t.val * 256 + p.val = R.val
    omega
  | ⟨1, h⟩ =>
    refine (Pipeline.Window.rect_emb_val win0_0 t (at2 p k) ⟨1, h⟩).trans ?_
    rw [idx0]
    show 0 * 2048 + k.val = k.val
    omega

/-- A point's block of the matrix is the matrix. -/
theorem block_moves (c : Dev nD) (t : Fin cfg0.N) : Moves (iblk m c 1 t) := by
  intro r k
  refine Eq.trans ?_ (moves m c r k)
  refine congrArg (V m c main_v9 : Vec Ideal S256x256 .bf16) (funext fun a => Fin.ext ?_)
  match a with
  | ⟨0, h⟩ =>
    refine (Pipeline.Window.rect_emb_val win0_1 t (at2 r k) ⟨0, h⟩).trans ?_
    rw [idx1]
    show 0 * 256 + r.val = r.val
    omega
  | ⟨1, h⟩ =>
    refine (Pipeline.Window.rect_emb_val win0_1 t (at2 r k) ⟨1, h⟩).trans ?_
    rw [idx1]
    show 0 * 256 + k.val = k.val
    omega

/-- Every point writes its packed codes back. -/
theorem flush2 : ∀ t : Fin cfg0.N, (cfg0.win 2).flush t = true := (by decide +kernel : ∀ t : Fin grid0.N, win0_2.flush t = true)
/-- Every point writes its block scales back. -/
theorem flush3 : ∀ t : Fin cfg0.N, (cfg0.win 3).flush t = true := (by decide +kernel : ∀ t : Fin grid0.N, win0_3.flush t = true)
/-- Every point writes its row scales back. -/
theorem flush4 : ∀ t : Fin cfg0.N, (cfg0.win 4).flush t = true := (by decide +kernel : ∀ t : Fin grid0.N, win0_4.flush t = true)

/-- The packed codes the kernel returns. -/
theorem array2 (c : Dev nD) (R : Fin 65536) (j : Fin 1024) :
    ((dats m 0 c).arrAt 2 cfg0.N : Vec Ideal S65536x1024 .i8) (at2 R j) = byteRow (argRow m c R) j := by
  have hR := R.isLt
  have he : ((cfg0.win 2).blk (pointOf R)).view.emb (at2 (⟨R.val % 256, Nat.mod_lt _ (by decide)⟩ : Fin 256) j) = (at2 R j : S65536x1024.Idx) := by
    funext a
    apply Fin.ext
    match a with
    | ⟨0, h⟩ =>
      refine (Pipeline.Window.rect_emb_val win0_2 (pointOf R) (at2 (⟨R.val % 256, Nat.mod_lt _ (by decide)⟩ : Fin 256) j) ⟨0, h⟩).trans ?_
      rw [idx2]
      show R.val / 256 * 256 + R.val % 256 = R.val
      omega
    | ⟨1, h⟩ =>
      refine (Pipeline.Window.rect_emb_val win0_2 (pointOf R) (at2 (⟨R.val % 256, Nat.mod_lt _ (by decide)⟩ : Fin 256) j) ⟨1, h⟩).trans ?_
      rw [idx2]
      show 0 * 1024 + j.val = j.val
      omega
  have h := (dats m 0 c).arrAt_emb_eq_flushed 2 Value.disjoint2 (pointOf R) (flush2 _) (at2 (⟨R.val % 256, Nat.mod_lt _ (by decide)⟩ : Fin 256) j)
  rw [he, Value.flushed2] at h
  refine h.trans ?_
  refine (out2_apply (iblk m c 0 (pointOf R)) (iblk m c 1 (pointOf R)) (block_moves m c _) ⟨R.val % 256, Nat.mod_lt _ (by decide)⟩ j).trans ?_
  rw [block_row m c (pointOf R) _ R (by show R.val = 256 * (R.val / 256) + R.val % 256; omega)]

/-- A block of the row scales, read through its window, is itself. -/
theorem cut4 (t : Fin cfg0.N) (f : Vec Ideal S1x1x256 .f32) (a b : Fin 1) (l : Fin 256) :
    ((cfg0.win 4).cut (grid0.coords t) f : Vec Ideal S1x1x256 .f32) (at3 a b l) = f (at3 a b l) := rfl

/-- The block scales the kernel returns. -/
theorem array3 (c : Dev nD) (R : Fin 65536) (j : Fin 128) :
    (((dats m 0 c).arrAt 3 cfg0.N : Vec Ideal S65536x128 .fp8e4m3) (at2 R j) : EReal) = scaleRow (argRow m c R) j := by
  have hR := R.isLt
  have he : ((cfg0.win 3).blk (pointOf R)).view.emb (at2 (⟨R.val % 256, Nat.mod_lt _ (by decide)⟩ : Fin 256) j) = (at2 R j : S65536x128.Idx) := by
    funext a
    apply Fin.ext
    match a with
    | ⟨0, h⟩ =>
      refine (Pipeline.Window.rect_emb_val win0_3 (pointOf R) (at2 (⟨R.val % 256, Nat.mod_lt _ (by decide)⟩ : Fin 256) j) ⟨0, h⟩).trans ?_
      rw [idx3]
      show R.val / 256 * 256 + R.val % 256 = R.val
      omega
    | ⟨1, h⟩ =>
      refine (Pipeline.Window.rect_emb_val win0_3 (pointOf R) (at2 (⟨R.val % 256, Nat.mod_lt _ (by decide)⟩ : Fin 256) j) ⟨1, h⟩).trans ?_
      rw [idx3]
      show 0 * 128 + j.val = j.val
      omega
  have h := (dats m 0 c).arrAt_emb_eq_flushed 3 Value.disjoint3 (pointOf R) (flush3 _) (at2 (⟨R.val % 256, Nat.mod_lt _ (by decide)⟩ : Fin 256) j)
  rw [he, Value.flushed3] at h
  refine h.trans ?_
  refine (out3_apply (iblk m c 0 (pointOf R)) (iblk m c 1 (pointOf R)) ⟨R.val % 256, Nat.mod_lt _ (by decide)⟩ j).trans ?_
  rw [block_row m c (pointOf R) _ R (by show R.val = 256 * (R.val / 256) + R.val % 256; omega)]

/-- The row scales the kernel returns. -/
theorem array4 (c : Dev nD) (i : Fin 256) (z : Fin 1) (l : Fin 256) :
    (((dats m 0 c).arrAt 4 cfg0.N : Vec Ideal S256x1x256 .f32) (at3 i z l) : EReal) =
      sgS (rmax (argRow m c ⟨256 * i.val + l.val, by omega⟩)) := by
  have he : ((cfg0.win 4).blk (pointAt i)).view.emb (at3 (0 : Fin 1) z l) = (at3 i z l : S256x1x256.Idx) := by
    funext a
    apply Fin.ext
    match a with
    | ⟨0, h⟩ =>
      refine (Pipeline.Window.rect_emb_val win0_4 (pointAt i) (at3 (0 : Fin 1) z l) ⟨0, h⟩).trans ?_
      rw [idx4]
      show i.val * 1 + 0 = i.val
      omega
    | ⟨1, h⟩ =>
      refine (Pipeline.Window.rect_emb_val win0_4 (pointAt i) (at3 (0 : Fin 1) z l) ⟨1, h⟩).trans ?_
      rw [idx4]
      show 0 * 1 + z.val = z.val
      omega
    | ⟨2, h⟩ =>
      refine (Pipeline.Window.rect_emb_val win0_4 (pointAt i) (at3 (0 : Fin 1) z l) ⟨2, h⟩).trans ?_
      rw [idx4]
      show 0 * 256 + l.val = l.val
      omega
  have h := (dats m 0 c).arrAt_emb_eq_flushed 4 Value.disjoint4 (pointAt i) (flush4 _) (at3 (0 : Fin 1) z l)
  rw [he, Value.flushed4] at h
  have hl := out4_apply (iblk m c 0 (pointAt i)) (iblk m c 1 (pointAt i)) 0 z l
  rw [block_row m c (pointAt i) l ⟨256 * i.val + l.val, by omega⟩ rfl] at hl
  have hr := cut4 (pointAt i) (out0_4 (iblk m c 0 (pointAt i)) (iblk m c 1 (pointAt i))) 0 z l
  have hs := eq_of_heq ((heq_of_eq h).trans ((cast_heq _ _).trans (heq_of_eq hr)))
  exact hs.trans hl

end Cert.KernelIdeal.Body

end
-- ==== Proof.RefArr.lean ====
/- The reference's three results, at the extended reals: its one point leaves them whole. -/
module

public import proofs.«01_k».proof.Proof.Ref
public import proofs.«01_k».proof.Proof.Kern

@[expose] public section

set_option maxRecDepth 16384

noncomputable section

namespace Cert.ReferenceIdeal.Body

open Cert.ReferenceIdeal Cert.ReferenceIdeal.Gen Idealize.ShloMosaic Idealize.SL.Sem Cert.Spec
open Cert.KernelIdeal.Body (at2 at3 at2_eta at3_eta byteRow scaleRow)
open Cert.Rows (row)

/-! ## What the point leaves in its blocks -/

/-- The load of the whole block is the block. -/
theorem load_eq (x0 : Vec Ideal S65536x2048 .bf16) : View.ld x0 r0_0 = x0 := by
  funext x
  refine congrArg x0 (funext fun a => Fin.ext ?_)
  match a with
  | ⟨0, _⟩ => show 0 + 1 * _ = _; omega
  | ⟨1, _⟩ => show 0 + 1 * _ = _; omega

/-- The bytes the point leaves. -/
theorem out1_apply (x0 : Vec Ideal S65536x2048 .bf16) (R : Fin 65536) (j : Fin 1024) :
    out0_1 x0 (at2 R j) = byteRow (row (n := 65536) x0 R) j := by
  refine (View.canon_apply_of_pieces (Val := Elt Ideal) (S := S65536x1024) (e := .i8)
    (fun y => byteRow (row (n := 65536) x0 (y 0)) (y 1)) _ ?_ (at2 R j) (cover0_1 _ _))
  intro pc hpc
  rcases List.mem_cons.mp hpc with rfl | hpc
  · intro x
    have e : r0_1.emb x = x := funext fun a => Fin.ext (match a with
      | ⟨0, _⟩ => by show 0 + 1 * _ = _; omega
      | ⟨1, _⟩ => by show 0 + 1 * _ = _; omega)
    have h := bytes_apply x0 (x 0) (x 1)
    rw [e]
    show k0_pay1 (k0_pay12 (k0_pay7 (View.ld x0 r0_0)) (k0_pay8 (View.ld x0 r0_0)) (k0_pay9 (View.ld x0 r0_0)) (Scalar.ofBits .f32 0x40000000#32) (k0_pay10 (F := Ideal)))
      (k0_pay13 (k0_pay7 (View.ld x0 r0_0)) (k0_pay8 (View.ld x0 r0_0)) (k0_pay9 (View.ld x0 r0_0)) (Scalar.ofBits .f32 0x40000000#32) (k0_pay10 (F := Ideal))) x = _
    rw [load_eq]
    exact (congrArg _ (at2_eta x)).trans h
  nomatch hpc

/-- The block scales the point leaves. -/
theorem out2_apply (x0 : Vec Ideal S65536x2048 .bf16) (R : Fin 65536) (j : Fin 128) :
    (out0_2 x0 (at2 R j) : EReal) = scaleRow (row (n := 65536) x0 R) j := by
  refine (View.canon_apply_of_pieces (Val := Elt Ideal) (S := S65536x128) (e := .fp8e4m3)
    (fun y => (scaleRow (row (n := 65536) x0 (y 0)) (y 1) : EReal)) _ ?_ (at2 R j) (cover0_2 _ _))
  intro pc hpc
  rcases List.mem_cons.mp hpc with rfl | hpc
  · intro x
    have e : r0_2.emb x = x := funext fun a => Fin.ext (match a with
      | ⟨0, _⟩ => by show 0 + 1 * _ = _; omega
      | ⟨1, _⟩ => by show 0 + 1 * _ = _; omega)
    have h := pay6_apply x0 (x 0) (x 1)
    rw [e]
    show k0_pay6 (View.ld x0 r0_0) x = _
    rw [load_eq]
    exact (congrArg (k0_pay6 x0) (at2_eta x)).trans h
  nomatch hpc

/-- The row scales as one array over the rows. -/
def rowsOf (x0 : Vec Ideal S65536x2048 .bf16) : Vec Ideal S256x1x256 .f32 := fun y =>
  (sgS (rmax (row (n := 65536) x0 ⟨256 * (y 0).val + (y 2).val, by
    have h0 : (y 0).val < 256 := (y 0).isLt
    have h2 : (y 2).val < 256 := (y 2).isLt
    omega⟩)) : EReal)

/-- The value the point stores is that array. -/
theorem rows_eq (x0 : Vec Ideal S65536x2048 .bf16) : k0_pay2 (k0_pay5 x0) = rowsOf x0 := by
  funext y
  exact (congrArg (k0_pay2 (k0_pay5 x0)) (at3_eta y)).trans (rows_apply x0 (y 0) (y 1) (y 2))

/-- A block stored whole is the value stored. -/
theorem whole3 (v : Vec Ideal S256x1x256 .f32) : (View.canon [⟨r0_3, v⟩] : Vec Ideal S256x1x256 .f32) = v := by
  funext y
  refine View.canon_apply_of_pieces (Val := Elt Ideal) (S := S256x1x256) (e := .f32) v _ ?_ y (cover0_3 _ _)
  intro pc hpc
  rcases List.mem_cons.mp hpc with rfl | hpc
  · intro x
    refine congrArg v (funext fun a => Fin.ext ?_)
    match a with
    | ⟨0, _⟩ => show _ = 0 + 1 * _; omega
    | ⟨1, _⟩ => show _ = 0 + 1 * _; omega
    | ⟨2, _⟩ => show _ = 0 + 1 * _; omega
  nomatch hpc

/-- The row scales the point leaves. -/
theorem out3_apply (x0 : Vec Ideal S65536x2048 .bf16) (i : Fin 256) (z : Fin 1) (l : Fin 256) :
    (out0_3 x0 (at3 i z l) : EReal) = sgS (rmax (row (n := 65536) x0 ⟨256 * i.val + l.val, by omega⟩)) := by
  unfold out0_3
  rw [whole3, load_eq, rows_eq]
  rfl

/-! ## The arrays -/

variable (m : (ℓ : Loc nD τ sig) → Buf (Elt Ideal) ℓ)

/-- The argument's rows as the point finds them. -/
abbrev argRows (c : Dev nD) : Vec Ideal S65536x2048 .bf16 := V m c main_v0

/-- The rows are the argument with its two leading axes joined. -/
theorem V_rows (c : Dev nD) : (V m c main_v0 : Vec Ideal S65536x2048 .bf16)
    = shapeCast S65536x2048 (m (c.tc.loc main_arg0) : Vec Ideal S16x4096x2048 .bf16) shapeCasts_S16x4096x2048_S65536x2048 := by
  entry_read
  rfl

/-- The one point reads the whole argument. -/
theorem idx0 : ∀ t : Fin cfg0.N, win0_0.index t = ![0, 0] :=
  (by decide +kernel : ∀ t : Fin grid0.N, win0_0.index t = ![0, 0])
/-- The one point writes the whole of the packed codes. -/
theorem idx1 : ∀ t : Fin cfg0.N, win0_1.index t = ![0, 0] :=
  (by decide +kernel : ∀ t : Fin grid0.N, win0_1.index t = ![0, 0])
/-- The one point writes the whole of the block scales. -/
theorem idx2 : ∀ t : Fin cfg0.N, win0_2.index t = ![0, 0] :=
  (by decide +kernel : ∀ t : Fin grid0.N, win0_2.index t = ![0, 0])
/-- The one point writes the whole of the row scales. -/
theorem idx3 : ∀ t : Fin cfg0.N, win0_3.index t = ![0, 0, 0] :=
  (by decide +kernel : ∀ t : Fin grid0.N, win0_3.index t = ![0, 0, 0])

/-- The point's block of the argument is the argument. -/
theorem block_eq (c : Dev nD) (t : Fin cfg0.N) : (iblk m c 0 t : Vec Ideal S65536x2048 .bf16) = argRows m c := by
  funext x
  refine congrArg (argRows m c) (funext fun a => Fin.ext ?_)
  match a with
  | ⟨0, h⟩ =>
    refine (Pipeline.Window.rect_emb_val win0_0 t x ⟨0, h⟩).trans ?_
    rw [idx0]
    show 0 * 65536 + _ = _
    omega
  | ⟨1, h⟩ =>
    refine (Pipeline.Window.rect_emb_val win0_0 t x ⟨1, h⟩).trans ?_
    rw [idx0]
    show 0 * 2048 + _ = _
    omega

/-- The packed codes the reference returns. -/
theorem array1 (c : Dev nD) (R : Fin 65536) (j : Fin 1024) :
    ((dats m 0 c).arrAt 1 cfg0.N : Vec Ideal S65536x1024 .i8) (at2 R j) = byteRow (row (n := 65536) (argRows m c) R) j := by
  have he : ((cfg0.win 1).blk t0_0).view.emb (at2 R j) = (at2 R j : S65536x1024.Idx) := by
    funext a
    apply Fin.ext
    match a with
    | ⟨0, h⟩ =>
      refine (Pipeline.Window.rect_emb_val win0_1 t0_0 (at2 R j) ⟨0, h⟩).trans ?_
      rw [idx1]
      show 0 * 65536 + R.val = R.val
      omega
    | ⟨1, h⟩ =>
      refine (Pipeline.Window.rect_emb_val win0_1 t0_0 (at2 R j) ⟨1, h⟩).trans ?_
      rw [idx1]
      show 0 * 1024 + j.val = j.val
      omega
  have h := (dats m 0 c).arrAt_emb_eq_flushed 1 Value.disjoint1 t0_0 (by decide +kernel) (at2 R j)
  rw [he, Value.flushed1, block_eq] at h
  have hr : ((cfg0.win 1).cut (grid0.coords t0_0) (out0_1 (argRows m c)) : Vec Ideal S65536x1024 .i8) (at2 R j)
      = out0_1 (argRows m c) (at2 R j) := rfl
  exact (eq_of_heq ((heq_of_eq h).trans ((cast_heq _ _).trans (heq_of_eq hr)))).trans (out1_apply (argRows m c) R j)

/-- The block scales the reference returns. -/
theorem array2 (c : Dev nD) (R : Fin 65536) (j : Fin 128) :
    (((dats m 0 c).arrAt 2 cfg0.N : Vec Ideal S65536x128 .fp8e4m3) (at2 R j) : EReal) = scaleRow (row (n := 65536) (argRows m c) R) j := by
  have he : ((cfg0.win 2).blk t0_0).view.emb (at2 R j) = (at2 R j : S65536x128.Idx) := by
    funext a
    apply Fin.ext
    match a with
    | ⟨0, h⟩ =>
      refine (Pipeline.Window.rect_emb_val win0_2 t0_0 (at2 R j) ⟨0, h⟩).trans ?_
      rw [idx2]
      show 0 * 65536 + R.val = R.val
      omega
    | ⟨1, h⟩ =>
      refine (Pipeline.Window.rect_emb_val win0_2 t0_0 (at2 R j) ⟨1, h⟩).trans ?_
      rw [idx2]
      show 0 * 128 + j.val = j.val
      omega
  have h := (dats m 0 c).arrAt_emb_eq_flushed 2 Value.disjoint2 t0_0 (by decide +kernel) (at2 R j)
  rw [he, Value.flushed2, block_eq] at h
  have hr : ((cfg0.win 2).cut (grid0.coords t0_0) (out0_2 (argRows m c)) : Vec Ideal S65536x128 .fp8e4m3) (at2 R j)
      = out0_2 (argRows m c) (at2 R j) := rfl
  exact (eq_of_heq ((heq_of_eq h).trans ((cast_heq _ _).trans (heq_of_eq hr)))).trans (out2_apply (argRows m c) R j)

/-- The row scales the reference returns. -/
theorem array3 (c : Dev nD) (i : Fin 256) (z : Fin 1) (l : Fin 256) :
    (((dats m 0 c).arrAt 3 cfg0.N : Vec Ideal S256x1x256 .f32) (at3 i z l) : EReal) =
      sgS (rmax (row (n := 65536) (argRows m c) ⟨256 * i.val + l.val, by omega⟩)) := by
  have he : ((cfg0.win 3).blk t0_0).view.emb (at3 i z l) = (at3 i z l : S256x1x256.Idx) := by
    funext a
    apply Fin.ext
    match a with
    | ⟨0, h⟩ =>
      refine (Pipeline.Window.rect_emb_val win0_3 t0_0 (at3 i z l) ⟨0, h⟩).trans ?_
      rw [idx3]
      show 0 * 256 + i.val = i.val
      omega
    | ⟨1, h⟩ =>
      refine (Pipeline.Window.rect_emb_val win0_3 t0_0 (at3 i z l) ⟨1, h⟩).trans ?_
      rw [idx3]
      show 0 * 1 + z.val = z.val
      omega
    | ⟨2, h⟩ =>
      refine (Pipeline.Window.rect_emb_val win0_3 t0_0 (at3 i z l) ⟨2, h⟩).trans ?_
      rw [idx3]
      show 0 * 256 + l.val = l.val
      omega
  have h := (dats m 0 c).arrAt_emb_eq_flushed 3 Value.disjoint3 t0_0 (by decide +kernel) (at3 i z l)
  rw [he, Value.flushed3, block_eq] at h
  have hr : ((cfg0.win 3).cut (grid0.coords t0_0) (out0_3 (argRows m c)) : Vec Ideal S256x1x256 .f32) (at3 i z l)
      = out0_3 (argRows m c) (at3 i z l) := rfl
  exact (eq_of_heq ((heq_of_eq h).trans ((cast_heq _ _).trans (heq_of_eq hr)))).trans (out3_apply (argRows m c) i z l)

end Cert.ReferenceIdeal.Body

end
-- ==== Proof.Equal.lean ====
/- The kernel's three arrays are the reference's, from the same argument. -/
module

public import proofs.«01_k».proof.Defs
public import proofs.«01_k».proof.Proof.RefArr

@[expose] public section

set_option maxRecDepth 16384

noncomputable section

namespace Cert.Equal

open Idealize.ShloMosaic Idealize.SL.Sem Cert.Spec
open Cert.KernelIdeal.Body (at2 at3 at2_eta at3_eta byteRow scaleRow)
open Cert.Rows (row)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs start from the same argument on device `c`. -/
abbrev Same (c : Dev Cert.KernelIdeal.nD) : Prop :=
  m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)

/-- The same rows reach both bodies. -/
theorem rows_same (c : Dev Cert.KernelIdeal.nD) (h : Same m m' c) :
    Cert.ReferenceIdeal.Body.argRows m' c = Cert.KernelIdeal.Body.argRows m c :=
  (Cert.ReferenceIdeal.Body.V_rows m' c).trans
    ((congrArg (fun v => shapeCast Cert.KernelIdeal.S65536x2048 v Cert.KernelIdeal.Gen.shapeCasts_S16x4096x2048_S65536x2048) h).trans
      (Cert.KernelIdeal.Body.V_rows m c).symm)

/-- A row of the reference's rows is that row of the kernel's. -/
theorem row_same (c : Dev Cert.KernelIdeal.nD) (h : Same m m' c) (R : Fin 65536) :
    row (n := 65536) (Cert.ReferenceIdeal.Body.argRows m' c) R = Cert.KernelIdeal.Body.argRow m c R := by
  rw [rows_same m m' c h]

/-- Two arrays of two axes that agree at every pair of coordinates are equal. -/
theorem ext2 {n k : Nat} {α : Type} (f g : (⟨2, ![n, k]⟩ : Shape).Idx → α) (h : ∀ i j, f (at2 i j) = g (at2 i j)) : f = g :=
  funext fun y => (congrArg f (at2_eta y)).trans ((h _ _).trans (congrArg g (at2_eta y)).symm)

/-- Two arrays of three axes that agree at every triple of coordinates are equal. -/
theorem ext3 {n k l : Nat} {α : Type} (f g : (⟨3, ![n, k, l]⟩ : Shape).Idx → α) (h : ∀ i j o, f (at3 i j o) = g (at3 i j o)) : f = g :=
  funext fun y => (congrArg f (at3_eta y)).trans ((h _ _ _).trans (congrArg g (at3_eta y)).symm)

/-- The packed codes agree. -/
theorem codes (c : Dev Cert.KernelIdeal.nD) (h : Same m m' c) :
    ((Cert.ReferenceIdeal.Gen.dats m' 0 c).arrAt 1 Cert.ReferenceIdeal.cfg0.N : Vec Ideal Cert.KernelIdeal.S65536x1024 .i8)
      = (Cert.KernelIdeal.Gen.dats m 0 c).arrAt 2 Cert.KernelIdeal.cfg0.N :=
  ext2 (n := 65536) (k := 1024) (α := BitVec 8) _ _ fun R j => (Cert.ReferenceIdeal.Body.array1 m' c R j).trans
    ((congrArg (fun X => byteRow X j) (row_same m m' c h R)).trans (Cert.KernelIdeal.Body.array2 m c R j).symm)

/-- The block scales agree. -/
theorem scales (c : Dev Cert.KernelIdeal.nD) (h : Same m m' c) :
    ((Cert.ReferenceIdeal.Gen.dats m' 0 c).arrAt 2 Cert.ReferenceIdeal.cfg0.N : Vec Ideal Cert.KernelIdeal.S65536x128 .fp8e4m3)
      = (Cert.KernelIdeal.Gen.dats m 0 c).arrAt 3 Cert.KernelIdeal.cfg0.N :=
  ext2 (n := 65536) (k := 128) (α := EReal) _ _ fun R j => (Cert.ReferenceIdeal.Body.array2 m' c R j).trans
    ((congrArg (fun X => scaleRow X j) (row_same m m' c h R)).trans (Cert.KernelIdeal.Body.array3 m c R j).symm)

/-- The row scales agree. -/
theorem rowScales (c : Dev Cert.KernelIdeal.nD) (h : Same m m' c) :
    ((Cert.ReferenceIdeal.Gen.dats m' 0 c).arrAt 3 Cert.ReferenceIdeal.cfg0.N : Vec Ideal Cert.KernelIdeal.S256x1x256 .f32)
      = (Cert.KernelIdeal.Gen.dats m 0 c).arrAt 4 Cert.KernelIdeal.cfg0.N :=
  ext3 (n := 256) (k := 1) (l := 256) (α := EReal) _ _ fun i z l => (Cert.ReferenceIdeal.Body.array3 m' c i z l).trans
    ((congrArg (fun X => sgS (rmax X)) (row_same m m' c h ⟨256 * i.val + l.val, by omega⟩)).trans
      (Cert.KernelIdeal.Body.array4 m c i z l).symm)

/-- Both programs, from the same argument, return the same three arrays. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => (Cert.KernelIdeal.Gen.dats m 0 c).arrAt 2 Cert.KernelIdeal.cfg0.N,
    fun c => (Cert.KernelIdeal.Gen.dats m 0 c).arrAt 3 Cert.KernelIdeal.cfg0.N,
    fun c => (Cert.KernelIdeal.Gen.dats m 0 c).arrAt 4 Cert.KernelIdeal.cfg0.N,
    Cert.KernelIdeal.Value.run_blocks m g, ?_⟩
  refine (θ_run _ _ _).mono ?_ (Cert.ReferenceIdeal.Value.run_blocks m' g')
  intro r hr c
  exact ⟨(hr c).1.trans (codes m m' c (h c)), (hr c).2.1.trans (scales m m' c (h c)),
    (hr c).2.2.1.trans (rowScales m m' c (h c)), (hr c).2.2.2⟩

end Cert.Equal

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Equal

@[expose] public section

/-- The certificate's claims. -/
theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Equal.algebraic⟩
